-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_target_ok [hPre_target_ok : Cert.Pre_target_ok.Facts] (m : (ℓ : Loc Cert.KernelIdeal.nD Cert.KernelIdeal.τ Cert.KernelIdeal.sig) → Buf (Elt Ideal) ℓ) : Prop :=
  ∀ c : Dev Cert.KernelIdeal.nD,
    (Cert.Pre_target_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_target_ok [hPre_target_ok : Cert.Pre_target_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_target_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_target_ok [hKernelIdeal : Cert.KernelIdeal.Facts] [hPre_target_ok : Cert.Pre_target_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_target_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_target_ok [hReferenceIdeal : Cert.ReferenceIdeal.Facts] [hPre_target_ok : Cert.Pre_target_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_target_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_target_ok [hKernelIdeal : Cert.KernelIdeal.Facts] [hReferenceIdeal : Cert.ReferenceIdeal.Facts] [hPre_target_ok : Cert.Pre_target_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_target_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_target_ok : Cert.Pre_target_ok.Facts),
    quiescent_Kernel (hKernel := hKernel)
    ∧ quiescent_KernelIdeal (hKernelIdeal := hKernelIdeal)
    ∧ quiescent_KernelIdeal_pre_target_ok (hKernelIdeal := hKernelIdeal) (hPre_target_ok := hPre_target_ok)
    ∧ quiescent_ReferenceIdeal (hReferenceIdeal := hReferenceIdeal)
    ∧ quiescent_ReferenceIdeal_pre_target_ok (hReferenceIdeal := hReferenceIdeal) (hPre_target_ok := hPre_target_ok)
    ∧ preserves_Kernel_KernelIdeal
    ∧ algebraic_KernelIdeal_ReferenceIdeal_pre_target_ok (hKernelIdeal := hKernelIdeal) (hReferenceIdeal := hReferenceIdeal) (hPre_target_ok := hPre_target_ok)
-- ==== Pre_target_ok.lean ====
abbrev S32768x1000 : Shape := ⟨2, ![32768, 1000]⟩
abbrev S32768 : Shape := ⟨1, ![32768]⟩
abbrev S32768x1 : Shape := ⟨2, ![32768, 1]⟩
abbrev S_ : Shape := ⟨0, ![]⟩

class Facts : Prop where
  shapeCasts_S32768_S32768x1 : S32768.ShapeCasts S32768x1
  reducesTo_S32768x1000_S32768_d1 : S32768x1000.ReducesTo [1] S32768
  h_S_ : 0 < S_.numel
  bcast_S32768_S32768x1_0 : S32768.BroadcastsInDim S32768x1 (![0] : Fin 1 → Fin S32768x1.rank)
  bcast_S32768x1_S32768x1000_0_1 : S32768x1.BroadcastsInDim S32768x1000 (![0, 1] : Fin 2 → Fin S32768x1000.rank)
  bcast_S_S32768x1000 : S_.BroadcastsInDim S32768x1000 (![] : Fin 0 → Fin S32768x1000.rank)
  bcast_S_S32768x1 : S_.BroadcastsInDim S32768x1 (![] : Fin 0 → Fin S32768x1.rank)

variable [Facts]

def fn_where {F : FTy → Type} [FloatOps F] (arg0 : IVec S32768x1000 1) (arg1 : FVec F S32768x1000 .f32) (arg2 : FVec F S_ .f32) : FVec F S32768x1000 .f32 :=
  let v0 : FVec F S_ .f32 := id arg2
  let v1 : FVec F S32768x1000 .f32 := broadcastInDim S32768x1000 ![] bcast_S_S32768x1000 v0
  let v2 : FVec F S32768x1000 .f32 := select arg0 arg1 v1
  v2

def fn_part1 {F : FTy → Type} [FloatOps F] (main_v3 : FVec F S32768x1 .f32) (main_v8 : FVec F S32768x1 .f32) (main_v13 : IVec S32768x1 1) (main_v18 : IVec S32768x1000 1) : IVec S32768x1000 1 :=
  let main_v19 : IVec S32768x1 1 := cmpf .olt main_v8 main_v3
  let main_v20 : IVec S32768x1000 1 := broadcastInDim S32768x1000 ![0, 1] bcast_S32768x1_S32768x1000_0_1 main_v19
  let main_v21 : IVec S32768x1000 1 := ori main_v18 main_v20
  let main_v22 : IVec S32768x1000 1 := broadcastInDim S32768x1000 ![0, 1] bcast_S32768x1_S32768x1000_0_1 main_v13
  let main_v23 : IVec S32768x1000 1 := andi main_v22 main_v21
  main_v23

def fn {F : FTy → Type} [FloatOps F] (main_arg0 : FVec F S32768x1000 .f32) (main_arg1 : IVec S32768 32) : IVec S32768x1000 1 :=
  let main_v0 : IVec S32768x1 32 := shapeCast S32768x1 main_arg1 shapeCasts_S32768_S32768x1
  let main_v1 : IVec S32768x1000 32 := iotaInDim S32768x1000 32 1
  let main_cst : FVec F S_ .f32 := constant S_ .f32 0xFF800000#32
  let main_v2 : FVec F S32768 .f32 := (fun x v => Host.reduce FloatOps.maximumf x v reducesTo_S32768x1000_S32768_d1 h_S_) main_arg0 main_cst
  let main_v3 : FVec F S32768x1 .f32 := broadcastInDim S32768x1 ![0] bcast_S32768_S32768x1_0 main_v2
  let main_v4 : IVec S32768x1000 32 := broadcastInDim S32768x1000 ![0, 1] bcast_S32768x1_S32768x1000_0_1 main_v0
  let main_v5 : IVec S32768x1000 1 := cmpi .eq main_v1 main_v4
  let main_cst_0 : FVec F S_ .f32 := constant S_ .f32 0x00000000#32
  let main_v6 : FVec F S32768x1000 .f32 := fn_where (F := F) main_v5 main_arg0 main_cst_0
  let main_cst_1 : FVec F S_ .f32 := constant S_ .f32 0x00000000#32
  let main_v7 : FVec F S32768 .f32 := (fun x v => Host.reduceAdd x v reducesTo_S32768x1000_S32768_d1 h_S_) main_v6 main_cst_1
  let main_v8 : FVec F S32768x1 .f32 := broadcastInDim S32768x1 ![0] bcast_S32768_S32768x1_0 main_v7
  let main_c : IVec S_ 32 := constantI S_ 32 0#32
  let main_v9 : IVec S32768x1 32 := broadcastInDim S32768x1 ![] bcast_S_S32768x1 main_c
  let main_v10 : IVec S32768x1 1 := cmpi .sge main_v0 main_v9
  let main_c_2 : IVec S_ 32 := constantI S_ 32 1000#32
  let main_v11 : IVec S32768x1 32 := broadcastInDim S32768x1 ![] bcast_S_S32768x1 main_c_2
  let main_v12 : IVec S32768x1 1 := cmpi .slt main_v0 main_v11
  let main_v13 : IVec S32768x1 1 := andi main_v10 main_v12
  let main_v14 : IVec S32768x1000 32 := broadcastInDim S32768x1000 ![0, 1] bcast_S32768x1_S32768x1000_0_1 main_v0
  let main_v15 : IVec S32768x1000 1 := cmpi .sge main_v1 main_v14
  let main_v16 : FVec F S32768x1000 .f32 := broadcastInDim S32768x1000 ![0, 1] bcast_S32768x1_S32768x1000_0_1 main_v3
  let main_v17 : IVec S32768x1000 1 := cmpf .olt main_arg0 main_v16
  let main_v18 : IVec S32768x1000 1 := ori main_v15 main_v17
  fn_part1 (F := F) main_v3 main_v8 main_v13 main_v18
-- ==== Kernel.lean ====
abbrev S32768x1000 : Shape := ⟨2, ![32768, 1000]⟩
abbrev S32768 : Shape := ⟨1, ![32768]⟩
abbrev S1000x32768 : Shape := ⟨2, ![1000, 32768]⟩
abbrev S32x1x1024 : Shape := ⟨3, ![32, 1, 1024]⟩
abbrev S1x1 : Shape := ⟨2, ![1, 1]⟩
abbrev S8x1 : Shape := ⟨2, ![8, 1]⟩
abbrev S_ : Shape := ⟨0, ![]⟩
abbrev S4x1000x1024 : Shape := ⟨3, ![4, 1000, 1024]⟩
abbrev S4 : Shape := ⟨1, ![4]⟩
abbrev S2x1x1x1024 : Shape := ⟨4, ![2, 1, 1, 1024]⟩
abbrev S2 : Shape := ⟨1, ![2]⟩
abbrev S1 : Shape := ⟨1, ![1]⟩
abbrev S1x1000x1024 : Shape := ⟨3, ![1, 1000, 1024]⟩
abbrev S1000x1024 : Shape := ⟨2, ![1000, 1024]⟩
abbrev S1x1x1x1024 : Shape := ⟨4, ![1, 1, 1, 1024]⟩
abbrev S1x1x1024 : Shape := ⟨3, ![1, 1, 1024]⟩
abbrev S1024 : Shape := ⟨1, ![1024]⟩
abbrev S1x1024 : Shape := ⟨2, ![1, 1024]⟩
abbrev S8x1024 : Shape := ⟨2, ![8, 1024]⟩
abbrev S8 : Shape := ⟨1, ![8]⟩

abbrev nBuf : Space → Nat
  | .hbm => 6
  | .vmem => 7
  | .smem => 0
  | _ => 0

abbrev bufTy : (tb : Table) → Fin (tcTables nBuf tb) → BufTy
  | .hbm, ⟨0, _⟩ => ⟨S32768x1000, .f32⟩
  | .hbm, ⟨1, _⟩ => ⟨S32768, .i32⟩
  | .hbm, ⟨2, _⟩ => ⟨S1000x32768, .f32⟩
  | .hbm, ⟨3, _⟩ => ⟨S32x1x1024, .i32⟩
  | .hbm, ⟨4, _⟩ => ⟨S1x1, .f32⟩
  | .hbm, ⟨5, _⟩ => ⟨S_, .f32⟩
  | .local _ .vmem, ⟨0, _⟩ => ⟨S8x1, .f32⟩
  | .local _ .vmem, ⟨1, _⟩ => ⟨S8x1, .f32⟩
  | .local _ .vmem, ⟨2, _⟩ => ⟨S8x1, .f32⟩
  | .local _ .vmem, ⟨3, _⟩ => ⟨S1x1, .f32⟩
  | .local _ .vmem, ⟨4, _⟩ => ⟨S1x1, .f32⟩
  | .local _ .vmem, ⟨5, _⟩ => ⟨S4x1000x1024, .f32⟩
  | .local _ .vmem, ⟨6, _⟩ => ⟨S2x1x1x1024, .i32⟩
  | _, _ => ⟨S32768x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_scoped0 : Ref sig .tc := ⟨.vmem, 0, rfl⟩
abbrev cc0_scoped1 : Ref sig .tc := ⟨.vmem, 1, rfl⟩
abbrev cc0_scoped2 : Ref sig .tc := ⟨.vmem, 2, rfl⟩
abbrev cc0_scoped3 : Ref sig .tc := ⟨.vmem, 3, rfl⟩
abbrev cc0_scoped4 : Ref sig .tc := ⟨.vmem, 4, rfl⟩
abbrev cc0_scoped6 : Ref sig .tc := ⟨.vmem, 5, rfl⟩
abbrev cc0_scoped8 : Ref sig .tc := ⟨.vmem, 6, rfl⟩

abbrev nD : Nat := 1
abbrev τ : Topo := Topo.v7x

variable {F : FTy → Type} [FloatOps F]

abbrev grid0 : Pipeline.Grid := ⟨1, ![1], ![false]⟩

def k0_off1 : Fin 1 → Nat :=
  let c0_i32_53_r1 : BitVec 32 := 0#32
  let c4_i32_r1 : BitVec 32 := 4#32
  let v67_r1 : BitVec 32 := Scalar.remui c0_i32_53_r1 c4_i32_r1
  ![v67_r1.toNat]
def k0_off2 : Fin 3 → Nat :=
  let c0_i32_53_r1 : BitVec 32 := 0#32
  let c4_i32_r1 : BitVec 32 := 4#32
  let v67_r1 : BitVec 32 := Scalar.remui c0_i32_53_r1 c4_i32_r1
  let c0_i32_54_r1 : BitVec 32 := 0#32
  let c0_i32_55_r1 : BitVec 32 := 0#32
  ![v67_r1.toNat, 0, 0]
def k0_off3 : Fin 1 → Nat :=
  let c0_i32_60_r1 : BitVec 32 := 0#32
  let c2_i32_r1 : BitVec 32 := 2#32
  let v74_r1 : BitVec 32 := Scalar.remui c0_i32_60_r1 c2_i32_r1
  ![v74_r1.toNat]
def k0_off4 : Fin 4 → Nat :=
  let c0_i32_60_r1 : BitVec 32 := 0#32
  let c2_i32_r1 : BitVec 32 := 2#32
  let v74_r1 : BitVec 32 := Scalar.remui c0_i32_60_r1 c2_i32_r1
  let c0_i32_61_r1 : BitVec 32 := 0#32
  let c0_i32_62_r1 : BitVec 32 := 0#32
  let c0_i32_63_r1 : BitVec 32 := 0#32
  ![v74_r1.toNat, 0, 0, 0]
def k0_cond1 : BitVec 1 :=
  let true_70_r1 : BitVec 1 := 1#1
  let true_34_r1 : BitVec 1 := 1#1
  let c1_i32_r1 : BitVec 32 := 1#32
  let c0_i32_35_r1 : BitVec 32 := 0#32
  let v48_r1 : BitVec 32 := Scalar.select true_34_r1 c1_i32_r1 c0_i32_35_r1
  let c32_i32_r1 : BitVec 32 := 32#32
  let v49_r1 : BitVec 1 := Scalar.cmpi .eq v48_r1 c32_i32_r1
  let c0_i32_36_r1 : BitVec 32 := 0#32
  let v50_r1 : BitVec 32 := Scalar.select v49_r1 c0_i32_36_r1 v48_r1
  let c0_i32_37_r1 : BitVec 32 := 0#32
  let v51_r1 : BitVec 32 := Scalar.addi v50_r1 c0_i32_37_r1
  let c0_i32_69_r1 : BitVec 32 := 0#32
  let v81_r1 : BitVec 1 := Scalar.cmpi .ne v51_r1 c0_i32_69_r1
  let v82_r1 : BitVec 1 := Scalar.andi true_70_r1 v81_r1
  let true_71_r1 : BitVec 1 := 1#1
  let v83_r1 : BitVec 1 := Scalar.andi v82_r1 true_71_r1
  let v84_r1 : BitVec 32 := Scalar.extui v83_r1
  let c0_i32_72_r1 : BitVec 32 := 0#32
  let v85_r1 : BitVec 1 := Scalar.cmpi .ne v84_r1 c0_i32_72_r1
  v85_r1

def k0_off5 : Fin 1 → Nat :=
  let c0_i32_58_r1 : BitVec 32 := 0#32
  let c1_i32_59_r1 : BitVec 32 := 1#32
  let v73_r1 : BitVec 32 := Scalar.addi c0_i32_58_r1 c1_i32_59_r1
  let c4_i32_115_r1 : BitVec 32 := 4#32
  let v127_r1 : BitVec 32 := Scalar.remui v73_r1 c4_i32_115_r1
  ![v127_r1.toNat]
def k0_off6 : Fin 3 → Nat :=
  let c0_i32_58_r1 : BitVec 32 := 0#32
  let c1_i32_59_r1 : BitVec 32 := 1#32
  let v73_r1 : BitVec 32 := Scalar.addi c0_i32_58_r1 c1_i32_59_r1
  let c4_i32_115_r1 : BitVec 32 := 4#32
  let v127_r1 : BitVec 32 := Scalar.remui v73_r1 c4_i32_115_r1
  let c0_i32_116_r1 : BitVec 32 := 0#32
  let c0_i32_117_r1 : BitVec 32 := 0#32
  ![v127_r1.toNat, 0, 0]
def k0_off7 : Fin 2 → Nat :=
  let c0_i32_118_r1 : BitVec 32 := 0#32
  let c1024_i32_r1 : BitVec 32 := 1024#32
  let true_34_r1 : BitVec 1 := 1#1
  let c1_i32_r1 : BitVec 32 := 1#32
  let c0_i32_35_r1 : BitVec 32 := 0#32
  let v48_r1 : BitVec 32 := Scalar.select true_34_r1 c1_i32_r1 c0_i32_35_r1
  let c32_i32_r1 : BitVec 32 := 32#32
  let v49_r1 : BitVec 1 := Scalar.cmpi .eq v48_r1 c32_i32_r1
  let c0_i32_36_r1 : BitVec 32 := 0#32
  let v50_r1 : BitVec 32 := Scalar.select v49_r1 c0_i32_36_r1 v48_r1
  let c0_i32_37_r1 : BitVec 32 := 0#32
  let v51_r1 : BitVec 32 := Scalar.addi v50_r1 c0_i32_37_r1
  let v128_r1 : BitVec 32 := Scalar.muli c1024_i32_r1 v51_r1
  ![0, v128_r1.toNat]
def k0_cond2 : BitVec 1 :=
  let true_74_r1 : BitVec 1 := 1#1
  let true_39_r1 : BitVec 1 := 1#1
  let true_34_r1 : BitVec 1 := 1#1
  let c1_i32_r1 : BitVec 32 := 1#32
  let c0_i32_35_r1 : BitVec 32 := 0#32
  let v48_r1 : BitVec 32 := Scalar.select true_34_r1 c1_i32_r1 c0_i32_35_r1
  let c32_i32_r1 : BitVec 32 := 32#32
  let v49_r1 : BitVec 1 := Scalar.cmpi .eq v48_r1 c32_i32_r1
  let c0_i32_36_r1 : BitVec 32 := 0#32
  let v50_r1 : BitVec 32 := Scalar.select v49_r1 c0_i32_36_r1 v48_r1
  let c1_i32_38_r1 : BitVec 32 := 1#32
  let v52_r1 : BitVec 32 := Scalar.addi v50_r1 c1_i32_38_r1
  let v53_r1 : BitVec 32 := Scalar.select true_39_r1 v52_r1 v50_r1
  let c32_i32_40_r1 : BitVec 32 := 32#32
  let v54_r1 : BitVec 1 := Scalar.cmpi .eq v53_r1 c32_i32_40_r1
  let c0_i32_41_r1 : BitVec 32 := 0#32
  let v55_r1 : BitVec 32 := Scalar.select v54_r1 c0_i32_41_r1 v53_r1
  let c0_i32_42_r1 : BitVec 32 := 0#32
  let v56_r1 : BitVec 32 := Scalar.addi v55_r1 c0_i32_42_r1
  let c0_i32_37_r1 : BitVec 32 := 0#32
  let v51_r1 : BitVec 32 := Scalar.addi v50_r1 c0_i32_37_r1
  let v88_r1 : BitVec 1 := Scalar.cmpi .ne v56_r1 v51_r1
  let v89_r1 : BitVec 1 := Scalar.andi true_74_r1 v88_r1
  let true_75_r1 : BitVec 1 := 1#1
  let v90_r1 : BitVec 1 := Scalar.andi v89_r1 true_75_r1
  let v91_r1 : BitVec 32 := Scalar.extui v90_r1
  let c0_i32_76_r1 : BitVec 32 := 0#32
  let v92_r1 : BitVec 1 := Scalar.cmpi .ne v91_r1 c0_i32_76_r1
  v92_r1

def k0_off8 : Fin 1 → Nat :=
  let true_70_r1 : BitVec 1 := 1#1
  let true_34_r1 : BitVec 1 := 1#1
  let c1_i32_r1 : BitVec 32 := 1#32
  let c0_i32_35_r1 : BitVec 32 := 0#32
  let v48_r1 : BitVec 32 := Scalar.select true_34_r1 c1_i32_r1 c0_i32_35_r1
  let c32_i32_r1 : BitVec 32 := 32#32
  let v49_r1 : BitVec 1 := Scalar.cmpi .eq v48_r1 c32_i32_r1
  let c0_i32_36_r1 : BitVec 32 := 0#32
  let v50_r1 : BitVec 32 := Scalar.select v49_r1 c0_i32_36_r1 v48_r1
  let c0_i32_37_r1 : BitVec 32 := 0#32
  let v51_r1 : BitVec 32 := Scalar.addi v50_r1 c0_i32_37_r1
  let c0_i32_69_r1 : BitVec 32 := 0#32
  let v81_r1 : BitVec 1 := Scalar.cmpi .ne v51_r1 c0_i32_69_r1
  let v82_r1 : BitVec 1 := Scalar.andi true_70_r1 v81_r1
  let c0_i32_58_r1 : BitVec 32 := 0#32
  let c1_i32_59_r1 : BitVec 32 := 1#32
  let v73_r1 : BitVec 32 := Scalar.addi c0_i32_58_r1 c1_i32_59_r1
  let c1_i32_73_r1 : BitVec 32 := 1#32
  let v86_r1 : BitVec 32 := Scalar.addi v73_r1 c1_i32_73_r1
  let v87_r1 : BitVec 32 := Scalar.select v82_r1 v86_r1 v73_r1
  let c4_i32_115_r1 : BitVec 32 := 4#32
  let v127_r1 : BitVec 32 := Scalar.remui v87_r1 c4_i32_115_r1
  ![v127_r1.toNat]
def k0_off9 : Fin 3 → Nat :=
  let true_70_r1 : BitVec 1 := 1#1
  let true_34_r1 : BitVec 1 := 1#1
  let c1_i32_r1 : BitVec 32 := 1#32
  let c0_i32_35_r1 : BitVec 32 := 0#32
  let v48_r1 : BitVec 32 := Scalar.select true_34_r1 c1_i32_r1 c0_i32_35_r1
  let c32_i32_r1 : BitVec 32 := 32#32
  let v49_r1 : BitVec 1 := Scalar.cmpi .eq v48_r1 c32_i32_r1
  let c0_i32_36_r1 : BitVec 32 := 0#32
  let v50_r1 : BitVec 32 := Scalar.select v49_r1 c0_i32_36_r1 v48_r1
  let c0_i32_37_r1 : BitVec 32 := 0#32
  let v51_r1 : BitVec 32 := Scalar.addi v50_r1 c0_i32_37_r1
  let c0_i32_69_r1 : BitVec 32 := 0#32
  let v81_r1 : BitVec 1 := Scalar.cmpi .ne v51_r1 c0_i32_69_r1
  let v82_r1 : BitVec 1 := Scalar.andi true_70_r1 v81_r1
  let c0_i32_58_r1 : BitVec 32 := 0#32
  let c1_i32_59_r1 : BitVec 32 := 1#32
  let v73_r1 : BitVec 32 := Scalar.addi c0_i32_58_r1 c1_i32_59_r1
  let c1_i32_73_r1 : BitVec 32 := 1#32
  let v86_r1 : BitVec 32 := Scalar.addi v73_r1 c1_i32_73_r1
  let v87_r1 : BitVec 32 := Scalar.select v82_r1 v86_r1 v73_r1
  let c4_i32_115_r1 : BitVec 32 := 4#32
  let v127_r1 : BitVec 32 := Scalar.remui v87_r1 c4_i32_115_r1
  let c0_i32_116_r1 : BitVec 32 := 0#32
  let c0_i32_117_r1 : BitVec 32 := 0#32
  ![v127_r1.toNat, 0, 0]
def k0_off10 : Fin 2 → Nat :=
  let c0_i32_118_r1 : BitVec 32 := 0#32
  let c1024_i32_r1 : BitVec 32 := 1024#32
  let true_39_r1 : BitVec 1 := 1#1
  let true_34_r1 : BitVec 1 := 1#1
  let c1_i32_r1 : BitVec 32 := 1#32
  let c0_i32_35_r1 : BitVec 32 := 0#32
  let v48_r1 : BitVec 32 := Scalar.select true_34_r1 c1_i32_r1 c0_i32_35_r1
  let c32_i32_r1 : BitVec 32 := 32#32
  let v49_r1 : BitVec 1 := Scalar.cmpi .eq v48_r1 c32_i32_r1
  let c0_i32_36_r1 : BitVec 32 := 0#32
  let v50_r1 : BitVec 32 := Scalar.select v49_r1 c0_i32_36_r1 v48_r1
  let c1_i32_38_r1 : BitVec 32 := 1#32
  let v52_r1 : BitVec 32 := Scalar.addi v50_r1 c1_i32_38_r1
  let v53_r1 : BitVec 32 := Scalar.select true_39_r1 v52_r1 v50_r1
  let c32_i32_40_r1 : BitVec 32 := 32#32
  let v54_r1 : BitVec 1 := Scalar.cmpi .eq v53_r1 c32_i32_40_r1
  let c0_i32_41_r1 : BitVec 32 := 0#32
  let v55_r1 : BitVec 32 := Scalar.select v54_r1 c0_i32_41_r1 v53_r1
  let c0_i32_42_r1 : BitVec 32 := 0#32
  let v56_r1 : BitVec 32 := Scalar.addi v55_r1 c0_i32_42_r1
  let v128_r1 : BitVec 32 := Scalar.muli c1024_i32_r1 v56_r1
  ![0, v128_r1.toNat]
@[reducible] def k0_t1_loop : Scf.Loop 32 :=
  let c0_i32_81_r1 : BitVec 32 := 0#32
  let c32_i32_82_r1 : BitVec 32 := 32#32
  let v95_r1 : BitVec 32 := Scalar.addi c0_i32_81_r1 c32_i32_82_r1
  let c1_i32_83_r1 : BitVec 32 := 1#32
  ⟨c0_i32_81_r1, v95_r1, c1_i32_83_r1⟩
def k0_off11 (arg5_r1 : BitVec 32) : Fin 1 → Nat :=
  let c4_i32_229_r1 : BitVec 32 := 4#32
  let v337_r1 : BitVec 32 := Scalar.remui arg5_r1 c4_i32_229_r1
  ![v337_r1.toNat]
def k0_cond3 (k0_t1 : Fin k0_t1_loop.trips) (arg9_r1 : BitVec 32) : BitVec 1 :=
  let true_129_r1 : BitVec 1 := 1#1
  let true_124_r1 : BitVec 1 := 1#1
  let c1_i32_123_r1 : BitVec 32 := 1#32
  let v135_r1 : BitVec 32 := Scalar.addi arg9_r1 c1_i32_123_r1
  let v136_r1 : BitVec 32 := Scalar.select true_124_r1 v135_r1 arg9_r1
  let c32_i32_125_r1 : BitVec 32 := 32#32
  let v137_r1 : BitVec 1 := Scalar.cmpi .eq v136_r1 c32_i32_125_r1
  let c0_i32_126_r1 : BitVec 32 := 0#32
  let v138_r1 : BitVec 32 := Scalar.select v137_r1 c0_i32_126_r1 v136_r1
  let c1_i32_128_r1 : BitVec 32 := 1#32
  let v140_r1 : BitVec 32 := Scalar.addi v138_r1 c1_i32_128_r1
  let v141_r1 : BitVec 32 := Scalar.select true_129_r1 v140_r1 v138_r1
  let c32_i32_130_r1 : BitVec 32 := 32#32
  let v142_r1 : BitVec 1 := Scalar.cmpi .eq v141_r1 c32_i32_130_r1
  let c0_i32_131_r1 : BitVec 32 := 0#32
  let v143_r1 : BitVec 32 := Scalar.select v142_r1 c0_i32_131_r1 v141_r1
  let c0_i32_132_r1 : BitVec 32 := 0#32
  let v144_r1 : BitVec 32 := Scalar.addi v143_r1 c0_i32_132_r1
  let true_134_r1 : BitVec 1 := 1#1
  let c1_i32_133_r1 : BitVec 32 := 1#32
  let v145_r1 : BitVec 32 := Scalar.addi v143_r1 c1_i32_133_r1
  let v146_r1 : BitVec 32 := Scalar.select true_134_r1 v145_r1 v143_r1
  let c32_i32_135_r1 : BitVec 32 := 32#32
  let v147_r1 : BitVec 1 := Scalar.cmpi .eq v146_r1 c32_i32_135_r1
  let c0_i32_136_r1 : BitVec 32 := 0#32
  let v148_r1 : BitVec 32 := Scalar.select v147_r1 c0_i32_136_r1 v146_r1
  let c0_i32_137_r1 : BitVec 32 := 0#32
  let v149_r1 : BitVec 32 := Scalar.addi v148_r1 c0_i32_137_r1
  let v155_r1 : BitVec 1 := Scalar.cmpi .ne v144_r1 v149_r1
  let c0_i32_81_r1 : BitVec 32 := 0#32
  let c1_i32_83_r1 : BitVec 32 := 1#32
  let arg4_r1 : BitVec 32 := Scf.iv c0_i32_81_r1 c1_i32_83_r1 k0_t1
  let c29_i32_r1 : BitVec 32 := 29#32
  let v156_r1 : BitVec 1 := Scalar.cmpi .sge arg4_r1 c29_i32_r1
  let true_143_r1 : BitVec 1 := 1#1
  let v157_r1 : BitVec 1 := Scalar.xori v156_r1 true_143_r1
  let v158_r1 : BitVec 1 := Scalar.andi v155_r1 v157_r1
  let true_144_r1 : BitVec 1 := 1#1
  let v159_r1 : BitVec 1 := Scalar.andi v158_r1 true_144_r1
  let v160_r1 : BitVec 32 := Scalar.extui v159_r1
  let c0_i32_145_r1 : BitVec 32 := 0#32
  let v161_r1 : BitVec 1 := Scalar.cmpi .ne v160_r1 c0_i32_145_r1
  v161_r1

def k0_off12 (arg5_r1 : BitVec 32) : Fin 3 → Nat :=
  let c4_i32_229_r1 : BitVec 32 := 4#32
  let v337_r1 : BitVec 32 := Scalar.remui arg5_r1 c4_i32_229_r1
  let c0_i32_230_r1 : BitVec 32 := 0#32
  let c0_i32_231_r1 : BitVec 32 := 0#32
  ![v337_r1.toNat, 0, 0]
def k0_off13 (arg9_r1 : BitVec 32) : Fin 2 → Nat :=
  let c0_i32_232_r1 : BitVec 32 := 0#32
  let c1024_i32_r1 : BitVec 32 := 1024#32
  let true_134_r1 : BitVec 1 := 1#1
  let true_129_r1 : BitVec 1 := 1#1
  let true_124_r1 : BitVec 1 := 1#1
  let c1_i32_123_r1 : BitVec 32 := 1#32
  let v135_r1 : BitVec 32 := Scalar.addi arg9_r1 c1_i32_123_r1
  let v136_r1 : BitVec 32 := Scalar.select true_124_r1 v135_r1 arg9_r1
  let c32_i32_125_r1 : BitVec 32 := 32#32
  let v137_r1 : BitVec 1 := Scalar.cmpi .eq v136_r1 c32_i32_125_r1
  let c0_i32_126_r1 : BitVec 32 := 0#32
  let v138_r1 : BitVec 32 := Scalar.select v137_r1 c0_i32_126_r1 v136_r1
  let c1_i32_128_r1 : BitVec 32 := 1#32
  let v140_r1 : BitVec 32 := Scalar.addi v138_r1 c1_i32_128_r1
  let v141_r1 : BitVec 32 := Scalar.select true_129_r1 v140_r1 v138_r1
  let c32_i32_130_r1 : BitVec 32 := 32#32
  let v142_r1 : BitVec 1 := Scalar.cmpi .eq v141_r1 c32_i32_130_r1
  let c0_i32_131_r1 : BitVec 32 := 0#32
  let v143_r1 : BitVec 32 := Scalar.select v142_r1 c0_i32_131_r1 v141_r1
  let c1_i32_133_r1 : BitVec 32 := 1#32
  let v145_r1 : BitVec 32 := Scalar.addi v143_r1 c1_i32_133_r1
  let v146_r1 : BitVec 32 := Scalar.select true_134_r1 v145_r1 v143_r1
  let c32_i32_135_r1 : BitVec 32 := 32#32
  let v147_r1 : BitVec 1 := Scalar.cmpi .eq v146_r1 c32_i32_135_r1
  let c0_i32_136_r1 : BitVec 32 := 0#32
  let v148_r1 : BitVec 32 := Scalar.select v147_r1 c0_i32_136_r1 v146_r1
  let c0_i32_137_r1 : BitVec 32 := 0#32
  let v149_r1 : BitVec 32 := Scalar.addi v148_r1 c0_i32_137_r1
  let v338_r1 : BitVec 32 := Scalar.muli c1024_i32_r1 v149_r1
  ![0, v338_r1.toNat]
def k0_off14 (arg7_r1 : BitVec 32) : Fin 1 → Nat :=
  let c2_i32_229_r1 : BitVec 32 := 2#32
  let v337_r1 : BitVec 32 := Scalar.remui arg7_r1 c2_i32_229_r1
  ![v337_r1.toNat]
def k0_cond4 (k0_t1 : Fin k0_t1_loop.trips) (arg9_r1 : BitVec 32) : BitVec 1 :=
  let c0_i32_117_r1 : BitVec 32 := 0#32
  let v129_r1 : BitVec 32 := Scalar.addi arg9_r1 c0_i32_117_r1
  let true_124_r1 : BitVec 1 := 1#1
  let c1_i32_123_r1 : BitVec 32 := 1#32
  let v135_r1 : BitVec 32 := Scalar.addi arg9_r1 c1_i32_123_r1
  let v136_r1 : BitVec 32 := Scalar.select true_124_r1 v135_r1 arg9_r1
  let c32_i32_125_r1 : BitVec 32 := 32#32
  let v137_r1 : BitVec 1 := Scalar.cmpi .eq v136_r1 c32_i32_125_r1
  let c0_i32_126_r1 : BitVec 32 := 0#32
  let v138_r1 : BitVec 32 := Scalar.select v137_r1 c0_i32_126_r1 v136_r1
  let c0_i32_127_r1 : BitVec 32 := 0#32
  let v139_r1 : BitVec 32 := Scalar.addi v138_r1 c0_i32_127_r1
  let v165_r1 : BitVec 1 := Scalar.cmpi .ne v129_r1 v139_r1
  let c0_i32_81_r1 : BitVec 32 := 0#32
  let c1_i32_83_r1 : BitVec 32 := 1#32
  let arg4_r1 : BitVec 32 := Scf.iv c0_i32_81_r1 c1_i32_83_r1 k0_t1
  let c31_i32_148_r1 : BitVec 32 := 31#32
  let v166_r1 : BitVec 1 := Scalar.cmpi .sge arg4_r1 c31_i32_148_r1
  let true_149_r1 : BitVec 1 := 1#1
  let v167_r1 : BitVec 1 := Scalar.xori v166_r1 true_149_r1
  let v168_r1 : BitVec 1 := Scalar.andi v165_r1 v167_r1
  let true_150_r1 : BitVec 1 := 1#1
  let v169_r1 : BitVec 1 := Scalar.andi v168_r1 true_150_r1
  let v170_r1 : BitVec 32 := Scalar.extui v169_r1
  let c0_i32_151_r1 : BitVec 32 := 0#32
  let v171_r1 : BitVec 1 := Scalar.cmpi .ne v170_r1 c0_i32_151_r1
  v171_r1

def k0_off15 (arg7_r1 : BitVec 32) : Fin 4 → Nat :=
  let c2_i32_229_r1 : BitVec 32 := 2#32
  let v337_r1 : BitVec 32 := Scalar.remui arg7_r1 c2_i32_229_r1
  let c0_i32_231_r1 : BitVec 32 := 0#32
  let c0_i32_232_r1 : BitVec 32 := 0#32
  let c0_i32_233_r1 : BitVec 32 := 0#32
  ![v337_r1.toNat, 0, 0, 0]
def k0_off16 (arg9_r1 : BitVec 32) : Fin 3 → Nat :=
  let c1_i32_230_r1 : BitVec 32 := 1#32
  let true_124_r1 : BitVec 1 := 1#1
  let c1_i32_123_r1 : BitVec 32 := 1#32
  let v135_r1 : BitVec 32 := Scalar.addi arg9_r1 c1_i32_123_r1
  let v136_r1 : BitVec 32 := Scalar.select true_124_r1 v135_r1 arg9_r1
  let c32_i32_125_r1 : BitVec 32 := 32#32
  let v137_r1 : BitVec 1 := Scalar.cmpi .eq v136_r1 c32_i32_125_r1
  let c0_i32_126_r1 : BitVec 32 := 0#32
  let v138_r1 : BitVec 32 := Scalar.select v137_r1 c0_i32_126_r1 v136_r1
  let c0_i32_127_r1 : BitVec 32 := 0#32
  let v139_r1 : BitVec 32 := Scalar.addi v138_r1 c0_i32_127_r1
  let v338_r1 : BitVec 32 := Scalar.muli c1_i32_230_r1 v139_r1
  let c0_i32_234_r1 : BitVec 32 := 0#32
  let c0_i32_235_r1 : BitVec 32 := 0#32
  ![v338_r1.toNat, 0, 0]
def k0_off17 (arg6_r1 : BitVec 32) : Fin 1 → Nat :=
  let c4_i32_229_r1 : BitVec 32 := 4#32
  let v338_r1 : BitVec 32 := Scalar.remui arg6_r1 c4_i32_229_r1
  ![v338_r1.toNat]
def k0_cond5 (k0_t1 : Fin k0_t1_loop.trips) (arg9_r1 : BitVec 32) : BitVec 1 :=
  let c0_i32_117_r1 : BitVec 32 := 0#32
  let v129_r1 : BitVec 32 := Scalar.addi arg9_r1 c0_i32_117_r1
  let true_119_r1 : BitVec 1 := 1#1
  let c1_i32_118_r1 : BitVec 32 := 1#32
  let v130_r1 : BitVec 32 := Scalar.subi arg9_r1 c1_i32_118_r1
  let v131_r1 : BitVec 32 := Scalar.select true_119_r1 v130_r1 arg9_r1
  let c_m1_i32_120_r1 : BitVec 32 := 4294967295#32
  let v132_r1 : BitVec 1 := Scalar.cmpi .eq v131_r1 c_m1_i32_120_r1
  let c31_i32_121_r1 : BitVec 32 := 31#32
  let v133_r1 : BitVec 32 := Scalar.select v132_r1 c31_i32_121_r1 v131_r1
  let c0_i32_122_r1 : BitVec 32 := 0#32
  let v134_r1 : BitVec 32 := Scalar.addi v133_r1 c0_i32_122_r1
  let v175_r1 : BitVec 1 := Scalar.cmpi .ne v129_r1 v134_r1
  let c0_i32_81_r1 : BitVec 32 := 0#32
  let c1_i32_83_r1 : BitVec 32 := 1#32
  let arg4_r1 : BitVec 32 := Scf.iv c0_i32_81_r1 c1_i32_83_r1 k0_t1
  let c0_i32_115_r1 : BitVec 32 := 0#32
  let v127_r1 : BitVec 1 := Scalar.cmpi .eq arg4_r1 c0_i32_115_r1
  let v176_r1 : BitVec 1 := Scalar.ori v175_r1 v127_r1
  let c0_i32_154_r1 : BitVec 32 := 0#32
  let v177_r1 : BitVec 1 := Scalar.cmpi .sge arg4_r1 c0_i32_154_r1
  let v178_r1 : BitVec 1 := Scalar.andi v176_r1 v177_r1
  let v179_r1 : BitVec 32 := Scalar.extui v178_r1
  let c0_i32_155_r1 : BitVec 32 := 0#32
  let v180_r1 : BitVec 1 := Scalar.cmpi .ne v179_r1 c0_i32_155_r1
  v180_r1

def k0_off18 (arg6_r1 : BitVec 32) : Fin 3 → Nat :=
  let c4_i32_229_r1 : BitVec 32 := 4#32
  let v338_r1 : BitVec 32 := Scalar.remui arg6_r1 c4_i32_229_r1
  let c0_i32_230_r1 : BitVec 32 := 0#32
  let c0_i32_231_r1 : BitVec 32 := 0#32
  ![v338_r1.toNat, 0, 0]
def k0_off19 (arg9_r1 : BitVec 32) : Fin 2 → Nat :=
  let c0_i32_232_r1 : BitVec 32 := 0#32
  let c1024_i32_r1 : BitVec 32 := 1024#32
  let c0_i32_117_r1 : BitVec 32 := 0#32
  let v129_r1 : BitVec 32 := Scalar.addi arg9_r1 c0_i32_117_r1
  let v337_r1 : BitVec 32 := Scalar.muli c1024_i32_r1 v129_r1
  ![0, v337_r1.toNat]
def k0_off20 (arg8_r1 : BitVec 32) : Fin 1 → Nat :=
  let c2_i32_230_r1 : BitVec 32 := 2#32
  let v338_r1 : BitVec 32 := Scalar.remui arg8_r1 c2_i32_230_r1
  ![v338_r1.toNat]
def k0_cond6 (k0_t1 : Fin k0_t1_loop.trips) (arg9_r1 : BitVec 32) : BitVec 1 :=
  let c0_i32_117_r1 : BitVec 32 := 0#32
  let v129_r1 : BitVec 32 := Scalar.addi arg9_r1 c0_i32_117_r1
  let true_119_r1 : BitVec 1 := 1#1
  let c1_i32_118_r1 : BitVec 32 := 1#32
  let v130_r1 : BitVec 32 := Scalar.subi arg9_r1 c1_i32_118_r1
  let v131_r1 : BitVec 32 := Scalar.select true_119_r1 v130_r1 arg9_r1
  let c_m1_i32_120_r1 : BitVec 32 := 4294967295#32
  let v132_r1 : BitVec 1 := Scalar.cmpi .eq v131_r1 c_m1_i32_120_r1
  let c31_i32_121_r1 : BitVec 32 := 31#32
  let v133_r1 : BitVec 32 := Scalar.select v132_r1 c31_i32_121_r1 v131_r1
  let c0_i32_122_r1 : BitVec 32 := 0#32
  let v134_r1 : BitVec 32 := Scalar.addi v133_r1 c0_i32_122_r1
  let v181_r1 : BitVec 1 := Scalar.cmpi .ne v129_r1 v134_r1
  let c0_i32_81_r1 : BitVec 32 := 0#32
  let c1_i32_83_r1 : BitVec 32 := 1#32
  let arg4_r1 : BitVec 32 := Scf.iv c0_i32_81_r1 c1_i32_83_r1 k0_t1
  let c0_i32_115_r1 : BitVec 32 := 0#32
  let v127_r1 : BitVec 1 := Scalar.cmpi .eq arg4_r1 c0_i32_115_r1
  let v182_r1 : BitVec 1 := Scalar.ori v181_r1 v127_r1
  let c0_i32_156_r1 : BitVec 32 := 0#32
  let v183_r1 : BitVec 1 := Scalar.cmpi .sge arg4_r1 c0_i32_156_r1
  let v184_r1 : BitVec 1 := Scalar.andi v182_r1 v183_r1
  let v185_r1 : BitVec 32 := Scalar.extui v184_r1
  let c0_i32_157_r1 : BitVec 32 := 0#32
  let v186_r1 : BitVec 1 := Scalar.cmpi .ne v185_r1 c0_i32_157_r1
  v186_r1

def k0_off21 (arg8_r1 : BitVec 32) : Fin 4 → Nat :=
  let c2_i32_230_r1 : BitVec 32 := 2#32
  let v338_r1 : BitVec 32 := Scalar.remui arg8_r1 c2_i32_230_r1
  let c0_i32_231_r1 : BitVec 32 := 0#32
  let c0_i32_232_r1 : BitVec 32 := 0#32
  let c0_i32_233_r1 : BitVec 32 := 0#32
  ![v338_r1.toNat, 0, 0, 0]
def k0_off22 (arg9_r1 : BitVec 32) : Fin 3 → Nat :=
  let c1_i32_229_r1 : BitVec 32 := 1#32
  let c0_i32_117_r1 : BitVec 32 := 0#32
  let v129_r1 : BitVec 32 := Scalar.addi arg9_r1 c0_i32_117_r1
  let v337_r1 : BitVec 32 := Scalar.muli c1_i32_229_r1 v129_r1
  let c0_i32_234_r1 : BitVec 32 := 0#32
  let c0_i32_235_r1 : BitVec 32 := 0#32
  ![v337_r1.toNat, 0, 0]

def k0_chk1 (k0_t1 : Fin k0_t1_loop.trips) (arg5_r1 : BitVec 32) (arg6_r1 : BitVec 32) (arg7_r1 : BitVec 32) (arg8_r1 : BitVec 32) (arg9_r1 : BitVec 32) : Prop :=
  (∀ (k0_h3 : k0_cond3 k0_t1 arg9_r1 = 1#1), ∀ a, (k0_off11 arg5_r1) a + S1.size a ≤ S4.size a) ∧
  (∀ (k0_h3 : k0_cond3 k0_t1 arg9_r1 = 1#1), ∀ a, (k0_off12 arg5_r1) a + S1x1000x1024.size a ≤ S4x1000x1024.size a) ∧
  (∀ (k0_h3 : k0_cond3 k0_t1 arg9_r1 = 1#1), ∀ a, (k0_off13 arg9_r1) a + S1000x1024.size a ≤ S1000x32768.size a) ∧
  (∀ (k0_h4 : k0_cond4 k0_t1 arg9_r1 = 1#1), ∀ a, (k0_off14 arg7_r1) a + S1.size a ≤ S2.size a) ∧
  (∀ (k0_h4 : k0_cond4 k0_t1 arg9_r1 = 1#1), ∀ a, (k0_off15 arg7_r1) a + S1x1x1x1024.size a ≤ S2x1x1x1024.size a) ∧
  (∀ (k0_h4 : k0_cond4 k0_t1 arg9_r1 = 1#1), ∀ a, (k0_off16 arg9_r1) a + S1x1x1024.size a ≤ S32x1x1024.size a) ∧
  (∀ (k0_h5 : k0_cond5 k0_t1 arg9_r1 = 1#1), ∀ a, (k0_off17 arg6_r1) a + S1.size a ≤ S4.size a) ∧
  (∀ (k0_h5 : k0_cond5 k0_t1 arg9_r1 = 1#1), ∀ a, (k0_off18 arg6_r1) a + S1x1000x1024.size a ≤ S4x1000x1024.size a) ∧
  (∀ (k0_h5 : k0_cond5 k0_t1 arg9_r1 = 1#1), ∀ a, (k0_off19 arg9_r1) a + S1000x1024.size a ≤ S1000x32768.size a) ∧
  (∀ (k0_h6 : k0_cond6 k0_t1 arg9_r1 = 1#1), ∀ a, (k0_off20 arg8_r1) a + S1.size a ≤ S2.size a) ∧
  (∀ (k0_h6 : k0_cond6 k0_t1 arg9_r1 = 1#1), ∀ a, (k0_off21 arg8_r1) a + S1x1x1x1024.size a ≤ S2x1x1x1024.size a) ∧
  (∀ (k0_h6 : k0_cond6 k0_t1 arg9_r1 = 1#1), ∀ a, (k0_off22 arg9_r1) a + S1x1x1024.size a ≤ S32x1x1024.size a)
theorem k0_off11_inb : ∀ (k0_t1 : Fin k0_t1_loop.trips) (arg5_r1 : BitVec 32) (arg6_r1 : BitVec 32) (arg7_r1 : BitVec 32) (arg8_r1 : BitVec 32) (arg9_r1 : BitVec 32) (k0_hw1 : k0_chk1 k0_t1 arg5_r1 arg6_r1 arg7_r1 arg8_r1 arg9_r1), ∀ (k0_h3 : k0_cond3 k0_t1 arg9_r1 = 1#1), ∀ a, (k0_off11 arg5_r1) a + S1.size a ≤ S4.size a := fun k0_t1 arg5_r1 arg6_r1 arg7_r1 arg8_r1 arg9_r1 k0_hw1 k0_h3 => k0_hw1.1 k0_h3
theorem k0_off12_inb : ∀ (k0_t1 : Fin k0_t1_loop.trips) (arg5_r1 : BitVec 32) (arg6_r1 : BitVec 32) (arg7_r1 : BitVec 32) (arg8_r1 : BitVec 32) (arg9_r1 : BitVec 32) (k0_hw1 : k0_chk1 k0_t1 arg5_r1 arg6_r1 arg7_r1 arg8_r1 arg9_r1), ∀ (k0_h3 : k0_cond3 k0_t1 arg9_r1 = 1#1), ∀ a, (k0_off12 arg5_r1) a + S1x1000x1024.size a ≤ S4x1000x1024.size a := fun k0_t1 arg5_r1 arg6_r1 arg7_r1 arg8_r1 arg9_r1 k0_hw1 k0_h3 => k0_hw1.2.1 k0_h3
theorem k0_off13_inb : ∀ (k0_t1 : Fin k0_t1_loop.trips) (arg5_r1 : BitVec 32) (arg6_r1 : BitVec 32) (arg7_r1 : BitVec 32) (arg8_r1 : BitVec 32) (arg9_r1 : BitVec 32) (k0_hw1 : k0_chk1 k0_t1 arg5_r1 arg6_r1 arg7_r1 arg8_r1 arg9_r1), ∀ (k0_h3 : k0_cond3 k0_t1 arg9_r1 = 1#1), ∀ a, (k0_off13 arg9_r1) a + S1000x1024.size a ≤ S1000x32768.size a := fun k0_t1 arg5_r1 arg6_r1 arg7_r1 arg8_r1 arg9_r1 k0_hw1 k0_h3 => k0_hw1.2.2.1 k0_h3
theorem k0_off14_inb : ∀ (k0_t1 : Fin k0_t1_loop.trips) (arg5_r1 : BitVec 32) (arg6_r1 : BitVec 32) (arg7_r1 : BitVec 32) (arg8_r1 : BitVec 32) (arg9_r1 : BitVec 32) (k0_hw1 : k0_chk1 k0_t1 arg5_r1 arg6_r1 arg7_r1 arg8_r1 arg9_r1), ∀ (k0_h4 : k0_cond4 k0_t1 arg9_r1 = 1#1), ∀ a, (k0_off14 arg7_r1) a + S1.size a ≤ S2.size a := fun k0_t1 arg5_r1 arg6_r1 arg7_r1 arg8_r1 arg9_r1 k0_hw1 k0_h4 => k0_hw1.2.2.2.1 k0_h4
theorem k0_off15_inb : ∀ (k0_t1 : Fin k0_t1_loop.trips) (arg5_r1 : BitVec 32) (arg6_r1 : BitVec 32) (arg7_r1 : BitVec 32) (arg8_r1 : BitVec 32) (arg9_r1 : BitVec 32) (k0_hw1 : k0_chk1 k0_t1 arg5_r1 arg6_r1 arg7_r1 arg8_r1 arg9_r1), ∀ (k0_h4 : k0_cond4 k0_t1 arg9_r1 = 1#1), ∀ a, (k0_off15 arg7_r1) a + S1x1x1x1024.size a ≤ S2x1x1x1024.size a := fun k0_t1 arg5_r1 arg6_r1 arg7_r1 arg8_r1 arg9_r1 k0_hw1 k0_h4 => k0_hw1.2.2.2.2.1 k0_h4
theorem k0_off16_inb : ∀ (k0_t1 : Fin k0_t1_loop.trips) (arg5_r1 : BitVec 32) (arg6_r1 : BitVec 32) (arg7_r1 : BitVec 32) (arg8_r1 : BitVec 32) (arg9_r1 : BitVec 32) (k0_hw1 : k0_chk1 k0_t1 arg5_r1 arg6_r1 arg7_r1 arg8_r1 arg9_r1), ∀ (k0_h4 : k0_cond4 k0_t1 arg9_r1 = 1#1), ∀ a, (k0_off16 arg9_r1) a + S1x1x1024.size a ≤ S32x1x1024.size a := fun k0_t1 arg5_r1 arg6_r1 arg7_r1 arg8_r1 arg9_r1 k0_hw1 k0_h4 => k0_hw1.2.2.2.2.2.1 k0_h4
theorem k0_off17_inb : ∀ (k0_t1 : Fin k0_t1_loop.trips) (arg5_r1 : BitVec 32) (arg6_r1 : BitVec 32) (arg7_r1 : BitVec 32) (arg8_r1 : BitVec 32) (arg9_r1 : BitVec 32) (k0_hw1 : k0_chk1 k0_t1 arg5_r1 arg6_r1 arg7_r1 arg8_r1 arg9_r1), ∀ (k0_h5 : k0_cond5 k0_t1 arg9_r1 = 1#1), ∀ a, (k0_off17 arg6_r1) a + S1.size a ≤ S4.size a := fun k0_t1 arg5_r1 arg6_r1 arg7_r1 arg8_r1 arg9_r1 k0_hw1 k0_h5 => k0_hw1.2.2.2.2.2.2.1 k0_h5
theorem k0_off18_inb : ∀ (k0_t1 : Fin k0_t1_loop.trips) (arg5_r1 : BitVec 32) (arg6_r1 : BitVec 32) (arg7_r1 : BitVec 32) (arg8_r1 : BitVec 32) (arg9_r1 : BitVec 32) (k0_hw1 : k0_chk1 k0_t1 arg5_r1 arg6_r1 arg7_r1 arg8_r1 arg9_r1), ∀ (k0_h5 : k0_cond5 k0_t1 arg9_r1 = 1#1), ∀ a, (k0_off18 arg6_r1) a + S1x1000x1024.size a ≤ S4x1000x1024.size a := fun k0_t1 arg5_r1 arg6_r1 arg7_r1 arg8_r1 arg9_r1 k0_hw1 k0_h5 => k0_hw1.2.2.2.2.2.2.2.1 k0_h5
theorem k0_off19_inb : ∀ (k0_t1 : Fin k0_t1_loop.trips) (arg5_r1 : BitVec 32) (arg6_r1 : BitVec 32) (arg7_r1 : BitVec 32) (arg8_r1 : BitVec 32) (arg9_r1 : BitVec 32) (k0_hw1 : k0_chk1 k0_t1 arg5_r1 arg6_r1 arg7_r1 arg8_r1 arg9_r1), ∀ (k0_h5 : k0_cond5 k0_t1 arg9_r1 = 1#1), ∀ a, (k0_off19 arg9_r1) a + S1000x1024.size a ≤ S1000x32768.size a := fun k0_t1 arg5_r1 arg6_r1 arg7_r1 arg8_r1 arg9_r1 k0_hw1 k0_h5 => k0_hw1.2.2.2.2.2.2.2.2.1 k0_h5
theorem k0_off20_inb : ∀ (k0_t1 : Fin k0_t1_loop.trips) (arg5_r1 : BitVec 32) (arg6_r1 : BitVec 32) (arg7_r1 : BitVec 32) (arg8_r1 : BitVec 32) (arg9_r1 : BitVec 32) (k0_hw1 : k0_chk1 k0_t1 arg5_r1 arg6_r1 arg7_r1 arg8_r1 arg9_r1), ∀ (k0_h6 : k0_cond6 k0_t1 arg9_r1 = 1#1), ∀ a, (k0_off20 arg8_r1) a + S1.size a ≤ S2.size a := fun k0_t1 arg5_r1 arg6_r1 arg7_r1 arg8_r1 arg9_r1 k0_hw1 k0_h6 => k0_hw1.2.2.2.2.2.2.2.2.2.1 k0_h6
theorem k0_off21_inb : ∀ (k0_t1 : Fin k0_t1_loop.trips) (arg5_r1 : BitVec 32) (arg6_r1 : BitVec 32) (arg7_r1 : BitVec 32) (arg8_r1 : BitVec 32) (arg9_r1 : BitVec 32) (k0_hw1 : k0_chk1 k0_t1 arg5_r1 arg6_r1 arg7_r1 arg8_r1 arg9_r1), ∀ (k0_h6 : k0_cond6 k0_t1 arg9_r1 = 1#1), ∀ a, (k0_off21 arg8_r1) a + S1x1x1x1024.size a ≤ S2x1x1x1024.size a := fun k0_t1 arg5_r1 arg6_r1 arg7_r1 arg8_r1 arg9_r1 k0_hw1 k0_h6 => k0_hw1.2.2.2.2.2.2.2.2.2.2.1 k0_h6
theorem k0_off22_inb : ∀ (k0_t1 : Fin k0_t1_loop.trips) (arg5_r1 : BitVec 32) (arg6_r1 : BitVec 32) (arg7_r1 : BitVec 32) (arg8_r1 : BitVec 32) (arg9_r1 : BitVec 32) (k0_hw1 : k0_chk1 k0_t1 arg5_r1 arg6_r1 arg7_r1 arg8_r1 arg9_r1), ∀ (k0_h6 : k0_cond6 k0_t1 arg9_r1 = 1#1), ∀ a, (k0_off22 arg9_r1) a + S1x1x1024.size a ≤ S32x1x1024.size a := fun k0_t1 arg5_r1 arg6_r1 arg7_r1 arg8_r1 arg9_r1 k0_hw1 k0_h6 => k0_hw1.2.2.2.2.2.2.2.2.2.2.2 k0_h6

def k0_off23 (arg6_r1 : BitVec 32) : Fin 3 → Nat :=
  let c4_i32_158_r1 : BitVec 32 := 4#32
  let v187_r1 : BitVec 32 := Scalar.remui arg6_r1 c4_i32_158_r1
  let v189_r1 : Index := Scalar.indexCast v187_r1
  let c0_160_r1 : Index := 0#32
  let c0_161_r1 : Index := 0#32
  ![v189_r1.toNat, 0, 0]

def k0_chk2 (arg6_r1 : BitVec 32) : Prop :=
  (∀ a, (k0_off23 arg6_r1) a + S1x1000x1024.size a ≤ S4x1000x1024.size a)
theorem k0_off23_inb : ∀ (arg6_r1 : BitVec 32) (k0_hw2 : k0_chk2 arg6_r1), ∀ a, (k0_off23 arg6_r1) a + S1x1000x1024.size a ≤ S4x1000x1024.size a := fun arg6_r1 k0_hw2 => k0_hw2

def k0_off24 (arg8_r1 : BitVec 32) : Fin 4 → Nat :=
  let c2_i32_159_r1 : BitVec 32 := 2#32
  let v188_r1 : BitVec 32 := Scalar.remui arg8_r1 c2_i32_159_r1
  let c0_i32_165_r1 : BitVec 32 := 0#32
  let c0_i32_166_r1 : BitVec 32 := 0#32
  let c0_i32_167_r1 : BitVec 32 := 0#32
  ![v188_r1.toNat, 0, 0, 0]

def k0_chk3 (arg8_r1 : BitVec 32) : Prop :=
  (∀ a, (k0_off24 arg8_r1) a + S1x1x1x1024.size a ≤ S2x1x1x1024.size a)
theorem k0_off24_inb : ∀ (arg8_r1 : BitVec 32) (k0_hw3 : k0_chk3 arg8_r1), ∀ a, (k0_off24 arg8_r1) a + S1x1x1x1024.size a ≤ S2x1x1x1024.size a := fun arg8_r1 k0_hw3 => k0_hw3
-- ==== ReferenceIdeal.lean ====
abbrev S32768x1000 : Shape := ⟨2, ![32768, 1000]⟩
abbrev S32768 : Shape := ⟨1, ![32768]⟩
abbrev S32768x1 : Shape := ⟨2, ![32768, 1]⟩
abbrev S_ : Shape := ⟨0, ![]⟩
abbrev S1 : Shape := ⟨1, ![1]⟩
abbrev S32768x1x1 : Shape := ⟨3, ![32768, 1, 1]⟩
abbrev S1x1x1 : Shape := ⟨3, ![1, 1, 1]⟩

abbrev nBuf : Space → Nat
  | .hbm => 234
  | .vmem => 0
  | .smem => 0
  | _ => 0

abbrev hbmTy0_0 (i : Nat) : BufTy := match i % 128 with
  | 0 => ⟨S32768x1000, .f32⟩
  | 1 => ⟨S32768, .i32⟩
  | 2 => ⟨S32768x1, .i32⟩
  | 3 => ⟨S_, .f32⟩
  | 4 => ⟨S32768, .f32⟩
  | 5 => ⟨S_, .f32⟩
  | 6 => ⟨S32768, .f32⟩
  | 7 => ⟨S32768, .f32⟩
  | 8 => ⟨S32768x1, .f32⟩
  | 9 => ⟨S32768x1000, .f32⟩
  | 10 => ⟨S32768x1000, .f32⟩
  | 11 => ⟨S32768x1000, .f32⟩
  | 12 => ⟨S_, .f32⟩
  | 13 => ⟨S32768, .f32⟩
  | 14 => ⟨S32768x1, .f32⟩
  | 15 => ⟨S32768x1000, .f32⟩
  | 16 => ⟨S32768x1000, .f32⟩
  | 17 => ⟨S_, .f32⟩
  | 18 => ⟨S32768, .f32⟩
  | 19 => ⟨S32768x1000, .i32⟩
  | 20 => ⟨S_, .f32⟩
  | 21 => ⟨S_, .i32⟩
  | 22 => ⟨S32768, .f32⟩
  | 23 => ⟨S32768, .i32⟩
  | 24 => ⟨S32768, .i32⟩
  | 25 => ⟨S32768, .i1⟩
  | 26 => ⟨S32768, .f32⟩
  | 27 => ⟨S_, .f32⟩
  | 28 => ⟨S1, .f32⟩
  | 29 => ⟨S_, .f32⟩
  | 30 => ⟨S32768, .f32⟩
  | 31 => ⟨S32768, .i1⟩
  | 32 => ⟨S_, .f32⟩
  | 33 => ⟨S32768, .f32⟩
  | 34 => ⟨S32768, .i1⟩
  | 35 => ⟨S32768, .i1⟩
  | 36 => ⟨S32768, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S32768, .f32⟩
  | 44 => ⟨S_, .f32⟩
  | 45 => ⟨S_, .f32⟩
  | 46 => ⟨S_, .f32⟩
  | 47 => ⟨S32768, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S1, .f32⟩
  | 60 => ⟨S1, .f32⟩
  | 61 => ⟨S_, .f32⟩
  | 62 => ⟨S32768, .f32⟩
  | 63 => ⟨S32768, .i1⟩
  | 64 => ⟨S_, .f32⟩
  | 65 => ⟨S32768, .f32⟩
  | 66 => ⟨S32768, .i1⟩
  | 67 => ⟨S32768, .i1⟩
  | 68 => ⟨S32768, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S32768, .f32⟩
  | 76 => ⟨S_, .f32⟩
  | 77 => ⟨S_, .f32⟩
  | 78 => ⟨S_, .f32⟩
  | 79 => ⟨S32768, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .i1⟩
  | 88 => ⟨S_, .f32⟩
  | 89 => ⟨S_, .f32⟩
  | 90 => ⟨S_, .f32⟩
  | 91 => ⟨S1, .f32⟩
  | 92 => ⟨S1, .f32⟩
  | 93 => ⟨S_, .f32⟩
  | 94 => ⟨S32768, .f32⟩
  | 95 => ⟨S32768, .i1⟩
  | 96 => ⟨S_, .f32⟩
  | 97 => ⟨S32768, .f32⟩
  | 98 => ⟨S32768, .i1⟩
  | 99 => ⟨S32768, .i1⟩
  | 100 => ⟨S32768, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S32768, .f32⟩
  | 108 => ⟨S_, .f32⟩
  | 109 => ⟨S_, .f32⟩
  | 110 => ⟨S_, .f32⟩
  | 111 => ⟨S32768, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .i1⟩
  | 120 => ⟨S_, .f32⟩
  | 121 => ⟨S_, .f32⟩
  | 122 => ⟨S_, .f32⟩
  | 123 => ⟨S1, .f32⟩
  | 124 => ⟨S1, .f32⟩
  | 125 => ⟨S_, .f32⟩
  | 126 => ⟨S32768, .f32⟩
  | 127 => ⟨S32768, .i1⟩
  | _ => ⟨S32768x1000, .f32⟩

abbrev hbmTy0_1 (i : Nat) : BufTy := match i % 128 with
  | 0 => ⟨S_, .f32⟩
  | 1 => ⟨S32768, .f32⟩
  | 2 => ⟨S32768, .i1⟩
  | 3 => ⟨S32768, .i1⟩
  | 4 => ⟨S32768, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S32768, .f32⟩
  | 12 => ⟨S_, .f32⟩
  | 13 => ⟨S_, .f32⟩
  | 14 => ⟨S_, .f32⟩
  | 15 => ⟨S32768, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .i1⟩
  | 24 => ⟨S_, .f32⟩
  | 25 => ⟨S_, .f32⟩
  | 26 => ⟨S_, .f32⟩
  | 27 => ⟨S1, .f32⟩
  | 28 => ⟨S1, .f32⟩
  | 29 => ⟨S_, .f32⟩
  | 30 => ⟨S32768, .f32⟩
  | 31 => ⟨S32768, .i1⟩
  | 32 => ⟨S_, .f32⟩
  | 33 => ⟨S32768, .f32⟩
  | 34 => ⟨S32768, .i1⟩
  | 35 => ⟨S32768, .i1⟩
  | 36 => ⟨S32768, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S32768, .f32⟩
  | 44 => ⟨S_, .f32⟩
  | 45 => ⟨S_, .f32⟩
  | 46 => ⟨S_, .f32⟩
  | 47 => ⟨S32768, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .i1⟩
  | 56 => ⟨S_, .f32⟩
  | 57 => ⟨S_, .f32⟩
  | 58 => ⟨S_, .f32⟩
  | 59 => ⟨S1, .f32⟩
  | 60 => ⟨S1, .f32⟩
  | 61 => ⟨S_, .f32⟩
  | 62 => ⟨S32768, .f32⟩
  | 63 => ⟨S_, .f32⟩
  | 64 => ⟨S32768, .f32⟩
  | 65 => ⟨S32768, .f32⟩
  | 66 => ⟨S32768x1, .f32⟩
  | 67 => ⟨S32768x1000, .f32⟩
  | 68 => ⟨S32768x1000, .f32⟩
  | 69 => ⟨S32768x1000, .f32⟩
  | 70 => ⟨S_, .f32⟩
  | 71 => ⟨S32768, .f32⟩
  | 72 => ⟨S32768x1, .f32⟩
  | 73 => ⟨S32768x1, .f32⟩
  | 74 => ⟨S32768x1000, .f32⟩
  | 75 => ⟨S32768x1000, .f32⟩
  | 76 => ⟨S_, .i32⟩
  | 77 => ⟨S32768x1, .i32⟩
  | 78 => ⟨S32768x1, .i1⟩
  | 79 => ⟨S_, .i32⟩
  | 80 => ⟨S32768x1, .i32⟩
  | 81 => ⟨S32768x1, .i32⟩
  | 82 => ⟨S32768x1, .i32⟩
  | 83 => ⟨S32768x1x1, .i32⟩
  | 84 => ⟨S1, .i32⟩
  | 85 => ⟨S_, .i32⟩
  | 86 => ⟨S32768x1x1, .i32⟩
  | 87 => ⟨S32768x1x1, .i1⟩
  | 88 => ⟨S1x1x1, .i32⟩
  | 89 => ⟨S32768x1x1, .i32⟩
  | 90 => ⟨S32768x1x1, .i1⟩
  | 91 => ⟨S32768x1x1, .i1⟩
  | 92 => ⟨S_, .i1⟩
  | 93 => ⟨S32768x1, .i1⟩
  | 94 => ⟨S32768x1, .f32⟩
  | 95 => ⟨S_, .f32⟩
  | 96 => ⟨S32768x1, .f32⟩
  | 97 => ⟨S32768x1, .f32⟩
  | 98 => ⟨S32768, .f32⟩
  | 99 => ⟨S_, .f32⟩
  | 100 => ⟨S1, .f32⟩
  | 101 => ⟨S1, .f32⟩
  | 102 => ⟨S32768, .f32⟩
  | 103 => ⟨S32768, .f32⟩
  | 104 => ⟨S_, .f32⟩
  | 105 => ⟨S_, .f32⟩
  | _ => ⟨S32768x1000, .f32⟩

abbrev hbmTy (i : Nat) : BufTy := match i / 128 with
  | 0 => hbmTy0_0 i
  | 1 => hbmTy0_1 i
  | _ => ⟨S32768x1000, .f32⟩

abbrev bufTy : (tb : Table) → Fin (tcTables nBuf tb) → BufTy
  | .hbm, ⟨i, _⟩ => hbmTy i
  | _, _ => ⟨S32768x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_11 : Ref sig .tc := ⟨.hbm, 54, rfl⟩
abbrev main_v36 : Ref sig .tc := ⟨.hbm, 55, rfl⟩
abbrev main_cst_12 : Ref sig .tc := ⟨.hbm, 56, rfl⟩
abbrev main_call1_v0 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_13 : Ref sig .tc := ⟨.hbm, 61, rfl⟩
abbrev main_v40 : Ref sig .tc := ⟨.hbm, 62, rfl⟩
abbrev main_v41 : Ref sig .tc := ⟨.hbm, 63, rfl⟩
abbrev main_cst_14 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_15 : Ref sig .tc := ⟨.hbm, 69, rfl⟩
abbrev main_v46 : Ref sig .tc := ⟨.hbm, 70, rfl⟩
abbrev main_cst_16 : Ref sig .tc := ⟨.hbm, 71, rfl⟩
abbrev main_v47 : Ref sig .tc := ⟨.hbm, 72, rfl⟩
abbrev main_cst_17 : Ref sig .tc := ⟨.hbm, 73, rfl⟩
abbrev main_v48 : Ref sig .tc := ⟨.hbm, 74, rfl⟩
abbrev main_v49 : Ref sig .tc := ⟨.hbm, 75, rfl⟩
abbrev main_cst_18 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_19 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_cst_20 : Ref sig .tc := ⟨.hbm, 86, rfl⟩
abbrev main_v58 : Ref sig .tc := ⟨.hbm, 87, rfl⟩
abbrev main_cst_21 : Ref sig .tc := ⟨.hbm, 88, rfl⟩
abbrev main_call2_v0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_22 : Ref sig .tc := ⟨.hbm, 93, rfl⟩
abbrev main_v62 : Ref sig .tc := ⟨.hbm, 94, rfl⟩
abbrev main_v63 : Ref sig .tc := ⟨.hbm, 95, rfl⟩
abbrev main_cst_23 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_24 : Ref sig .tc := ⟨.hbm, 101, rfl⟩
abbrev main_v68 : Ref sig .tc := ⟨.hbm, 102, rfl⟩
abbrev main_cst_25 : Ref sig .tc := ⟨.hbm, 103, rfl⟩
abbrev main_v69 : Ref sig .tc := ⟨.hbm, 104, rfl⟩
abbrev main_cst_26 : Ref sig .tc := ⟨.hbm, 105, rfl⟩
abbrev main_v70 : Ref sig .tc := ⟨.hbm, 106, rfl⟩
abbrev main_v71 : Ref sig .tc := ⟨.hbm, 107, rfl⟩
abbrev main_cst_27 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_28 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_29 : Ref sig .tc := ⟨.hbm, 118, rfl⟩
abbrev main_v80 : Ref sig .tc := ⟨.hbm, 119, rfl⟩
abbrev main_cst_30 : Ref sig .tc := ⟨.hbm, 120, rfl⟩
abbrev main_call3_v0 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_cst_31 : Ref sig .tc := ⟨.hbm, 125, rfl⟩
abbrev main_v84 : Ref sig .tc := ⟨.hbm, 126, rfl⟩
abbrev main_v85 : Ref sig .tc := ⟨.hbm, 127, rfl⟩
abbrev main_cst_32 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_cst_33 : Ref sig .tc := ⟨.hbm, 133, rfl⟩
abbrev main_v90 : Ref sig .tc := ⟨.hbm, 134, rfl⟩
abbrev main_cst_34 : Ref sig .tc := ⟨.hbm, 135, rfl⟩
abbrev main_v91 : Ref sig .tc := ⟨.hbm, 136, rfl⟩
abbrev main_cst_35 : Ref sig .tc := ⟨.hbm, 137, rfl⟩
abbrev main_v92 : Ref sig .tc := ⟨.hbm, 138, rfl⟩
abbrev main_v93 : Ref sig .tc := ⟨.hbm, 139, rfl⟩
abbrev main_cst_36 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_37 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_cst_38 : Ref sig .tc := ⟨.hbm, 150, rfl⟩
abbrev main_v102 : Ref sig .tc := ⟨.hbm, 151, rfl⟩
abbrev main_cst_39 : Ref sig .tc := ⟨.hbm, 152, rfl⟩
abbrev main_call4_v0 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_cst_40 : Ref sig .tc := ⟨.hbm, 157, rfl⟩
abbrev main_v106 : Ref sig .tc := ⟨.hbm, 158, rfl⟩
abbrev main_v107 : Ref sig .tc := ⟨.hbm, 159, rfl⟩
abbrev main_cst_41 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_cst_42 : Ref sig .tc := ⟨.hbm, 165, rfl⟩
abbrev main_v112 : Ref sig .tc := ⟨.hbm, 166, rfl⟩
abbrev main_cst_43 : Ref sig .tc := ⟨.hbm, 167, rfl⟩
abbrev main_v113 : Ref sig .tc := ⟨.hbm, 168, rfl⟩
abbrev main_cst_44 : Ref sig .tc := ⟨.hbm, 169, rfl⟩
abbrev main_v114 : Ref sig .tc := ⟨.hbm, 170, rfl⟩
abbrev main_v115 : Ref sig .tc := ⟨.hbm, 171, rfl⟩
abbrev main_cst_45 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_cst_46 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_cst_47 : Ref sig .tc := ⟨.hbm, 182, rfl⟩
abbrev main_v124 : Ref sig .tc := ⟨.hbm, 183, rfl⟩
abbrev main_cst_48 : Ref sig .tc := ⟨.hbm, 184, rfl⟩
abbrev main_call5_v0 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_call6_cst : Ref sig .tc := ⟨.hbm, 189, rfl⟩
abbrev main_call6_v0 : Ref sig .tc := ⟨.hbm, 190, rfl⟩
abbrev main_call6_cst_0 : Ref sig .tc := ⟨.hbm, 191, rfl⟩
abbrev main_call6_v1 : Ref sig .tc := ⟨.hbm, 192, rfl⟩
abbrev main_call6_v2 : Ref sig .tc := ⟨.hbm, 193, rfl⟩
abbrev main_call6_v3 : Ref sig .tc := ⟨.hbm, 194, rfl⟩
abbrev main_call6_v4 : Ref sig .tc := ⟨.hbm, 195, rfl⟩
abbrev main_call6_v5 : Ref sig .tc := ⟨.hbm, 196, rfl⟩
abbrev main_call6_v6 : Ref sig .tc := ⟨.hbm, 197, rfl⟩
abbrev main_call6_cst_1 : Ref sig .tc := ⟨.hbm, 198, rfl⟩
abbrev main_call6_v7 : Ref sig .tc := ⟨.hbm, 199, rfl⟩
abbrev main_call6_v8 : Ref sig .tc := ⟨.hbm, 200, rfl⟩
abbrev main_call6_v9 : Ref sig .tc := ⟨.hbm, 201, rfl⟩
abbrev main_call6_v10 : Ref sig .tc := ⟨.hbm, 202, rfl⟩
abbrev main_v128 : Ref sig .tc := ⟨.hbm, 203, rfl⟩
abbrev main_call7_c : Ref sig .tc := ⟨.hbm, 204, rfl⟩
abbrev main_call7_v0 : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_v5 : Ref sig .tc := ⟨.hbm, 211, rfl⟩
abbrev main_call7_c_1 : Ref sig .tc := ⟨.hbm, 212, rfl⟩
abbrev main_call7_c_2 : Ref sig .tc := ⟨.hbm, 213, rfl⟩
abbrev main_call7_v6 : Ref sig .tc := ⟨.hbm, 214, rfl⟩
abbrev main_call7_v7 : Ref sig .tc := ⟨.hbm, 215, rfl⟩
abbrev main_call7_v8 : Ref sig .tc := ⟨.hbm, 216, rfl⟩
abbrev main_call7_v9 : Ref sig .tc := ⟨.hbm, 217, rfl⟩
abbrev main_call7_v10 : Ref sig .tc := ⟨.hbm, 218, rfl⟩
abbrev main_call7_v11 : Ref sig .tc := ⟨.hbm, 219, rfl⟩
abbrev main_call7_c_3 : Ref sig .tc := ⟨.hbm, 220, rfl⟩
abbrev main_call7_v12 : Ref sig .tc := ⟨.hbm, 221, rfl⟩
abbrev main_call7_v13 : Ref sig .tc := ⟨.hbm, 222, rfl⟩
abbrev main_call7_cst : Ref sig .tc := ⟨.hbm, 223, rfl⟩
abbrev main_call7_v14 : Ref sig .tc := ⟨.hbm, 224, rfl⟩
abbrev main_v129 : Ref sig .tc := ⟨.hbm, 225, rfl⟩
abbrev main_v130 : Ref sig .tc := ⟨.hbm, 226, rfl⟩
abbrev main_cst_49 : Ref sig .tc := ⟨.hbm, 227, rfl⟩
abbrev main_v131 : Ref sig .tc := ⟨.hbm, 228, rfl⟩
abbrev main_v132 : Ref sig .tc := ⟨.hbm, 229, rfl⟩
abbrev main_v133 : Ref sig .tc := ⟨.hbm, 230, rfl⟩
abbrev main_v134 : Ref sig .tc := ⟨.hbm, 231, rfl⟩
abbrev main_cst_50 : Ref sig .tc := ⟨.hbm, 232, rfl⟩
abbrev main_v135 : Ref sig .tc := ⟨.hbm, 233, rfl⟩

abbrev nD : Nat := 1
abbrev τ : Topo := Topo.v7x

variable {F : FTy → Type} [FloatOps F]
-- ==== Proof.Names.lean ====
/-
  The names of the body's pieces and the words its loop carries.

  The kernel streams the transposed logits through four slots, three blocks ahead, and the labels through two slots,
  one block ahead. Here every slice the body takes gets one name: the column block `b` of the logits, slot `s` of
  their buffer, that slot's semaphore; and the same three for the labels. The five words the loop carries are functions
  of the trip number, so each printed offset and each printed condition is decided once over the thirty-two trips.
-/
module

public import proofs.«01_k».proof.Defs
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.KitQuiescent
public import Idealize.ShloMosaic.Lib.Ring
public import Idealize.ShloMosaic.Lib.Ring.Trips
public import Idealize.ShloMosaic.Lib.Tactic

@[expose] public section

set_option maxRecDepth 16384

noncomputable section

namespace Cert.Proof.Stream

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The buffers whole -/

abbrev xM : Memref sig .tc .hbm S1000x32768 .f32 := Memref.whole main_v0
abbrev tM : Memref sig .tc .hbm S32x1x1024 .i32 := Memref.whole main_v1
abbrev oM : Memref sig .tc .hbm S1x1 .f32 := Memref.whole main_v2
abbrev cntM : Memref sig .tc .vmem S8x1 .f32 := Memref.whole cc0_scoped0
abbrev asumM : Memref sig .tc .vmem S8x1 .f32 := Memref.whole cc0_scoped1
abbrev csumM : Memref sig .tc .vmem S8x1 .f32 := Memref.whole cc0_scoped2
abbrev lsumM : Memref sig .tc .vmem S1x1 .f32 := Memref.whole cc0_scoped3
abbrev resM : Memref sig .tc .vmem S1x1 .f32 := Memref.whole cc0_scoped4
abbrev xbufM : Memref sig .tc .vmem S4x1000x1024 .f32 := Memref.whole cc0_scoped6
abbrev tbufM : Memref sig .tc .vmem S2x1x1x1024 .i32 := Memref.whole cc0_scoped8

/-! ## Offsets -/

abbrev xblkOff (b : Fin 32) : Fin 2 → Nat := ![0, 1024 * b.val]
theorem xblkOff_inb (b : Fin 32) : ∀ a, xblkOff b a + S1000x1024.size a ≤ S1000x32768.size a := by
  have := b.isLt; intro a; fin_cases a
  · show 0 + 1000 ≤ 1000; omega
  · show 1024 * b.val + 1024 ≤ 32768; omega
abbrev xslotOff (s : Fin 4) : Fin 3 → Nat := ![s.val, 0, 0]
theorem xslotOff_inb (s : Fin 4) : ∀ a, xslotOff s a + S1x1000x1024.size a ≤ S4x1000x1024.size a := by
  have := s.isLt; intro a; fin_cases a
  · show s.val + 1 ≤ 4; omega
  · show 0 + 1000 ≤ 1000; omega
  · show 0 + 1024 ≤ 1024; omega
abbrev xcellOff (s : Fin 4) : Fin 1 → Nat := ![s.val]
theorem xcellOff_inb (s : Fin 4) : ∀ a, xcellOff s a + S1.size a ≤ S4.size a := by
  have := s.isLt; intro a; fin_cases a; show s.val + 1 ≤ 4; omega
abbrev tblkOff (b : Fin 32) : Fin 3 → Nat := ![b.val, 0, 0]
theorem tblkOff_inb (b : Fin 32) : ∀ a, tblkOff b a + S1x1x1024.size a ≤ S32x1x1024.size a := by
  have := b.isLt; intro a; fin_cases a
  · show b.val + 1 ≤ 32; omega
  · show 0 + 1 ≤ 1; omega
  · show 0 + 1024 ≤ 1024; omega
abbrev tslotOff (s : Fin 2) : Fin 4 → Nat := ![s.val, 0, 0, 0]
theorem tslotOff_inb (s : Fin 2) : ∀ a, tslotOff s a + S1x1x1x1024.size a ≤ S2x1x1x1024.size a := by
  have := s.isLt; intro a; fin_cases a
  · show s.val + 1 ≤ 2; omega
  · show 0 + 1 ≤ 1; omega
  · show 0 + 1 ≤ 1; omega
  · show 0 + 1024 ≤ 1024; omega
abbrev tcellOff (s : Fin 2) : Fin 1 → Nat := ![s.val]
theorem tcellOff_inb (s : Fin 2) : ∀ a, tcellOff s a + S1.size a ≤ S2.size a := by
  have := s.isLt; intro a; fin_cases a; show s.val + 1 ≤ 2; omega

/-! ## The pieces -/

/-- Columns `1024 b …` of the transposed logits. -/
def xblk (b : Fin 32) : Memref sig .tc .hbm S1000x1024 .f32 :=
  xM.slice (Rect.unit (s := S1000x32768) (xblkOff b) S1000x1024.size (xblkOff_inb b)) (fun _ => rfl)
/-- Slot `s` of the logits' buffer. -/
def xslot (s : Fin 4) : Memref sig .tc .vmem S1000x1024 .f32 :=
  (xbufM.slice (Rect.unit (s := S4x1000x1024) (xslotOff s) S1x1000x1024.size (xslotOff_inb s)) (fun _ => rfl)).squeeze S1000x1024 squeezes_S1x1000x1024_S1000x1024
/-- That slot's semaphore. -/
def xcell (s : Fin 4) : DmaSems sig S_ :=
  (cc0_scoped7.slice (Rect.unit (s := S4) (xcellOff s) S1.size (xcellOff_inb s))).squeeze S_ squeezes_S1_S_
/-- Row `b` of the labels. -/
def tblk (b : Fin 32) : Memref sig .tc .hbm S1x1x1024 .i32 :=
  tM.slice (Rect.unit (s := S32x1x1024) (tblkOff b) S1x1x1024.size (tblkOff_inb b)) (fun _ => rfl)
/-- Slot `s` of the labels' buffer. -/
def tslot (s : Fin 2) : Memref sig .tc .vmem S1x1x1024 .i32 :=
  (tbufM.slice (Rect.unit (s := S2x1x1x1024) (tslotOff s) S1x1x1x1024.size (tslotOff_inb s)) (fun _ => rfl)).squeeze S1x1x1024 squeezes_S1x1x1x1024_S1x1x1024
/-- That slot's semaphore. -/
def tcell (s : Fin 2) : DmaSems sig S_ :=
  (cc0_scoped9.slice (Rect.unit (s := S2) (tcellOff s) S1.size (tcellOff_inb s))).squeeze S_ squeezes_S1_S_

instance (b : Fin 32) : ClosedOff (xblkOff b) := ⟨xblkOff b, rfl⟩
instance (s : Fin 4) : ClosedOff (xslotOff s) := ⟨xslotOff s, rfl⟩
instance (b : Fin 32) : ClosedOff (tblkOff b) := ⟨tblkOff b, rfl⟩
instance (s : Fin 2) : ClosedOff (tslotOff s) := ⟨tslotOff s, rfl⟩

private theorem xcell_at {off : Fin 1 → Nat} {s : Fin 4} (e : off = xcellOff s) (hh) :
    (cc0_scoped7.slice (Rect.unit (s := S4) off S1.size hh)).squeeze S_ squeezes_S1_S_ = xcell s :=
  congrArg (fun A : DmaSems sig S1 => A.squeeze S_ squeezes_S1_S_) (SemArray.slice_unit_congr _ e _ _)
private theorem xslot_at {off : Fin 3 → Nat} {s : Fin 4} (e : off = xslotOff s) (hh hs) :
    (xbufM.slice (Rect.unit (s := S4x1000x1024) off S1x1000x1024.size hh) hs).squeeze S1000x1024 squeezes_S1x1000x1024_S1000x1024 = xslot s :=
  congrArg (fun M : Memref sig .tc .vmem S1x1000x1024 .f32 => M.squeeze S1000x1024 squeezes_S1x1000x1024_S1000x1024) (Memref.slice_unit_congr _ e _ _ _ _)
private theorem xblk_at {off : Fin 2 → Nat} {b : Fin 32} (e : off = xblkOff b) (hh hs) :
    xM.slice (Rect.unit (s := S1000x32768) off S1000x1024.size hh) hs = xblk b :=
  Memref.slice_unit_congr _ e _ _ _ (fun _ => rfl)
private theorem tcell_at {off : Fin 1 → Nat} {s : Fin 2} (e : off = tcellOff s) (hh) :
    (cc0_scoped9.slice (Rect.unit (s := S2) off S1.size hh)).squeeze S_ squeezes_S1_S_ = tcell s :=
  congrArg (fun A : DmaSems sig S1 => A.squeeze S_ squeezes_S1_S_) (SemArray.slice_unit_congr _ e _ _)
private theorem tslot_at {off : Fin 4 → Nat} {s : Fin 2} (e : off = tslotOff s) (hh hs) :
    (tbufM.slice (Rect.unit (s := S2x1x1x1024) off S1x1x1x1024.size hh) hs).squeeze S1x1x1024 squeezes_S1x1x1x1024_S1x1x1024 = tslot s :=
  congrArg (fun M : Memref sig .tc .vmem S1x1x1x1024 .i32 => M.squeeze S1x1x1024 squeezes_S1x1x1x1024_S1x1x1024) (Memref.slice_unit_congr _ e _ _ _ _)
private theorem tblk_at {off : Fin 3 → Nat} {b : Fin 32} (e : off = tblkOff b) (hh hs) :
    tM.slice (Rect.unit (s := S32x1x1024) off S1x1x1024.size hh) hs = tblk b :=
  Memref.slice_unit_congr _ e _ _ _ (fun _ => rfl)

/-! ## The carried words -/

abbrev Trip : Type := Fin k0_t1_loop.trips
theorem trips_eq : k0_t1_loop.trips = 32 := by decide +kernel
theorem trip_lt (k : Trip) : k.val < 32 := Nat.lt_of_lt_of_eq k.isLt trips_eq

/-- The next logits block to start. -/
def wXi (k : ℕ) : BitVec 32 := BitVec.ofNat 32 (min (k + 3) 32)
/-- The next labels block to start. -/
def wTi (k : ℕ) : BitVec 32 := BitVec.ofNat 32 (min (k + 1) 32)
/-- The trip's own number, carried once per operand. -/
def wC (k : ℕ) : BitVec 32 := BitVec.ofNat 32 k
/-- The block index, back at zero after the last trip. -/
def wB (k : ℕ) : BitVec 32 := BitVec.ofNat 32 (k % 32)

/-- What the loop carries before trip `k`. -/
abbrev carried (k : ℕ) : BitVec 32 × BitVec 32 × BitVec 32 × BitVec 32 × BitVec 32 := (wXi k, wC k, wTi k, wC k, wB k)

theorem cond3_iff : ∀ k : Trip, k0_cond3 k (wB k.val) = 1#1 ↔ k.val < 29 := by decide +kernel
theorem cond4_iff : ∀ k : Trip, k0_cond4 k (wB k.val) = 1#1 ↔ k.val < 31 := by decide +kernel
theorem cond5_yes : ∀ k : Trip, k0_cond5 k (wB k.val) = 1#1 := by decide +kernel
theorem cond6_yes : ∀ k : Trip, k0_cond6 k (wB k.val) = 1#1 := by decide +kernel
theorem chk1_all : ∀ k : Trip, k0_chk1 k (wXi k.val) (wC k.val) (wTi k.val) (wC k.val) (wB k.val) := by decide +kernel
theorem chk2_all : ∀ k : Trip, k0_chk2 (wC k.val) := by decide +kernel
theorem chk3_all : ∀ k : Trip, k0_chk3 (wC k.val) := by decide +kernel

theorem off11_eq : ∀ k : Trip, k.val < 29 → k0_off11 (wXi k.val) = xcellOff (Ring.sl 4 (k.val + 3)) := by decide +kernel
theorem off12_eq : ∀ k : Trip, k.val < 29 → k0_off12 (wXi k.val) = xslotOff (Ring.sl 4 (k.val + 3)) := by decide +kernel
theorem off13_eq : ∀ k : Trip, k.val < 29 → k0_off13 (wB k.val) = xblkOff (Ring.bk 32 (k.val + 3)) := by decide +kernel
theorem off14_eq : ∀ k : Trip, k.val < 31 → k0_off14 (wTi k.val) = tcellOff (Ring.sl 2 (k.val + 1)) := by decide +kernel
theorem off15_eq : ∀ k : Trip, k.val < 31 → k0_off15 (wTi k.val) = tslotOff (Ring.sl 2 (k.val + 1)) := by decide +kernel
theorem off16_eq : ∀ k : Trip, k.val < 31 → k0_off16 (wB k.val) = tblkOff (Ring.bk 32 (k.val + 1)) := by decide +kernel
theorem off17_eq : ∀ k : Trip, k0_off17 (wC k.val) = xcellOff (Ring.sl 4 k.val) := by decide +kernel
theorem off18_eq : ∀ k : Trip, k0_off18 (wC k.val) = xslotOff (Ring.sl 4 k.val) := by decide +kernel
theorem off19_eq : ∀ k : Trip, k0_off19 (wB k.val) = xblkOff (Ring.bk 32 k.val) := by decide +kernel
theorem off20_eq : ∀ k : Trip, k0_off20 (wC k.val) = tcellOff (Ring.sl 2 k.val) := by decide +kernel
theorem off21_eq : ∀ k : Trip, k0_off21 (wC k.val) = tslotOff (Ring.sl 2 k.val) := by decide +kernel
theorem off22_eq : ∀ k : Trip, k0_off22 (wB k.val) = tblkOff (Ring.bk 32 k.val) := by decide +kernel
theorem off23_eq : ∀ k : Trip, k0_off23 (wC k.val) = xslotOff (Ring.sl 4 k.val) := by decide +kernel
theorem off24_eq : ∀ k : Trip, k0_off24 (wC k.val) = tslotOff (Ring.sl 2 k.val) := by decide +kernel

instance (k : Trip) : ClosedOff (k0_off18 (wC k.val)) := ⟨xslotOff (Ring.sl 4 k.val), off18_eq k⟩
instance (k : Trip) : ClosedOff (k0_off23 (wC k.val)) := ⟨xslotOff (Ring.sl 4 k.val), off23_eq k⟩
instance (k : Trip) : ClosedOff (k0_off24 (wC k.val)) := ⟨tslotOff (Ring.sl 2 k.val), off24_eq k⟩

/-! ## The body's slices are these pieces -/

-- the prologue: blocks 0, 1 and 2 of the logits, block 0 of the labels
@[sl_canon] theorem xcellP0 (hh) : (cc0_scoped7.slice (Rect.unit (s := S4) k0_off1 S1.size hh)).squeeze S_ squeezes_S1_S_ = xcell 0 := xcell_at (by decide) _
@[sl_canon] theorem xslotP0 (hh hs) : (xbufM.slice (Rect.unit (s := S4x1000x1024) k0_off2 S1x1000x1024.size hh) hs).squeeze S1000x1024 squeezes_S1x1000x1024_S1000x1024 = xslot 0 := xslot_at (by decide) _ _
@[sl_canon] theorem xblkP0 (hh hs) : xM.slice (Rect.unit (s := S1000x32768) ![0, 0] S1000x1024.size hh) hs = xblk 0 := xblk_at (by decide) _ _
@[sl_canon] theorem tcellP0 (hh) : (cc0_scoped9.slice (Rect.unit (s := S2) k0_off3 S1.size hh)).squeeze S_ squeezes_S1_S_ = tcell 0 := tcell_at (by decide) _
@[sl_canon] theorem tslotP0 (hh hs) : (tbufM.slice (Rect.unit (s := S2x1x1x1024) k0_off4 S1x1x1x1024.size hh) hs).squeeze S1x1x1024 squeezes_S1x1x1x1024_S1x1x1024 = tslot 0 := tslot_at (by decide) _ _
@[sl_canon] theorem tblkP0 (hh hs) : tM.slice (Rect.unit (s := S32x1x1024) ![0, 0, 0] S1x1x1024.size hh) hs = tblk 0 := tblk_at (by decide) _ _
@[sl_canon] theorem xcellP1 (hh) : (cc0_scoped7.slice (Rect.unit (s := S4) k0_off5 S1.size hh)).squeeze S_ squeezes_S1_S_ = xcell 1 := xcell_at (by decide) _
@[sl_canon] theorem xslotP1 (hh hs) : (xbufM.slice (Rect.unit (s := S4x1000x1024) k0_off6 S1x1000x1024.size hh) hs).squeeze S1000x1024 squeezes_S1x1000x1024_S1000x1024 = xslot 1 := xslot_at (by decide) _ _
@[sl_canon] theorem xblkP1 (hh hs) : xM.slice (Rect.unit (s := S1000x32768) k0_off7 S1000x1024.size hh) hs = xblk 1 := xblk_at (by decide) _ _
@[sl_canon] theorem xcellP2 (hh) : (cc0_scoped7.slice (Rect.unit (s := S4) k0_off8 S1.size hh)).squeeze S_ squeezes_S1_S_ = xcell 2 := xcell_at (by decide) _
@[sl_canon] theorem xslotP2 (hh hs) : (xbufM.slice (Rect.unit (s := S4x1000x1024) k0_off9 S1x1000x1024.size hh) hs).squeeze S1000x1024 squeezes_S1x1000x1024_S1000x1024 = xslot 2 := xslot_at (by decide) _ _
@[sl_canon] theorem xblkP2 (hh hs) : xM.slice (Rect.unit (s := S1000x32768) k0_off10 S1000x1024.size hh) hs = xblk 2 := xblk_at (by decide) _ _

-- trip `k`: what it starts
@[sl_canon] theorem xcellI (k : Trip) (hk : k.val < 29) (hh) : (cc0_scoped7.slice (Rect.unit (s := S4) (k0_off11 (wXi k.val)) S1.size hh)).squeeze S_ squeezes_S1_S_ = xcell (Ring.sl 4 (k.val + 3)) := xcell_at (off11_eq k hk) _
@[sl_canon] theorem xslotI (k : Trip) (hk : k.val < 29) (hh hs) : (xbufM.slice (Rect.unit (s := S4x1000x1024) (k0_off12 (wXi k.val)) S1x1000x1024.size hh) hs).squeeze S1000x1024 squeezes_S1x1000x1024_S1000x1024 = xslot (Ring.sl 4 (k.val + 3)) := xslot_at (off12_eq k hk) _ _
@[sl_canon] theorem xblkI (k : Trip) (hk : k.val < 29) (hh hs) : xM.slice (Rect.unit (s := S1000x32768) (k0_off13 (wB k.val)) S1000x1024.size hh) hs = xblk (Ring.bk 32 (k.val + 3)) := xblk_at (off13_eq k hk) _ _
@[sl_canon] theorem tcellI (k : Trip) (hk : k.val < 31) (hh) : (cc0_scoped9.slice (Rect.unit (s := S2) (k0_off14 (wTi k.val)) S1.size hh)).squeeze S_ squeezes_S1_S_ = tcell (Ring.sl 2 (k.val + 1)) := tcell_at (off14_eq k hk) _
@[sl_canon] theorem tslotI (k : Trip) (hk : k.val < 31) (hh hs) : (tbufM.slice (Rect.unit (s := S2x1x1x1024) (k0_off15 (wTi k.val)) S1x1x1x1024.size hh) hs).squeeze S1x1x1024 squeezes_S1x1x1x1024_S1x1x1024 = tslot (Ring.sl 2 (k.val + 1)) := tslot_at (off15_eq k hk) _ _
@[sl_canon] theorem tblkI (k : Trip) (hk : k.val < 31) (hh hs) : tM.slice (Rect.unit (s := S32x1x1024) (k0_off16 (wB k.val)) S1x1x1024.size hh) hs = tblk (Ring.bk 32 (k.val + 1)) := tblk_at (off16_eq k hk) _ _
-- and what it waits for and reads
@[sl_canon] theorem xcellW (k : Trip) (hh) : (cc0_scoped7.slice (Rect.unit (s := S4) (k0_off17 (wC k.val)) S1.size hh)).squeeze S_ squeezes_S1_S_ = xcell (Ring.sl 4 k.val) := xcell_at (off17_eq k) _
@[sl_canon] theorem xslotW (k : Trip) (hh hs) : (xbufM.slice (Rect.unit (s := S4x1000x1024) (k0_off18 (wC k.val)) S1x1000x1024.size hh) hs).squeeze S1000x1024 squeezes_S1x1000x1024_S1000x1024 = xslot (Ring.sl 4 k.val) := xslot_at (off18_eq k) _ _
@[sl_canon] theorem xblkW (k : Trip) (hh hs) : xM.slice (Rect.unit (s := S1000x32768) (k0_off19 (wB k.val)) S1000x1024.size hh) hs = xblk (Ring.bk 32 k.val) := xblk_at (off19_eq k) _ _
@[sl_canon] theorem tcellW (k : Trip) (hh) : (cc0_scoped9.slice (Rect.unit (s := S2) (k0_off20 (wC k.val)) S1.size hh)).squeeze S_ squeezes_S1_S_ = tcell (Ring.sl 2 k.val) := tcell_at (off20_eq k) _
@[sl_canon] theorem tslotW (k : Trip) (hh hs) : (tbufM.slice (Rect.unit (s := S2x1x1x1024) (k0_off21 (wC k.val)) S1x1x1x1024.size hh) hs).squeeze S1x1x1024 squeezes_S1x1x1x1024_S1x1x1024 = tslot (Ring.sl 2 k.val) := tslot_at (off21_eq k) _ _
@[sl_canon] theorem tblkW (k : Trip) (hh hs) : tM.slice (Rect.unit (s := S32x1x1024) (k0_off22 (wB k.val)) S1x1x1024.size hh) hs = tblk (Ring.bk 32 k.val) := tblk_at (off22_eq k) _ _
@[sl_canon] theorem tslotR (k : Trip) (hh hs) : (tbufM.slice (Rect.unit (s := S2x1x1x1024) (k0_off24 (wC k.val)) S1x1x1x1024.size hh) hs).squeeze S1x1x1024 squeezes_S1x1x1x1024_S1x1x1024 = tslot (Ring.sl 2 k.val) := tslot_at (off24_eq k) _ _

end Cert.Proof.Stream

end
-- ==== Proof.Trip.lean ====
/-
  One trip of the streaming loop, and the loop's invariant.
-/
module

public import proofs.«01_k».proof.Proof.Names
public import Idealize.ShloMosaic.Lib.VecWindow
public import Idealize.ShloMosaic.Lib.LaneScatter.Tiles

@[expose] public section

set_option maxRecDepth 16384

noncomputable section

namespace Cert.Proof.Stream

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The resource algebra: the launch's, beside the counters the body's own transfers ride on -/

abbrev UU : Type := UR sig nD τ × Counters
local notation "𝕄" => MT nD τ sig Unit (Elt F) ℕ UU ℕ
abbrev 𝒱₀ : Variants := Variants.none

/-! ## The pieces held -/

section Pieces
variable (c : Dev nD) (XA : Buf (Elt F) (xM.view.loc (c : Thread nD τ))) (TA : Buf (Elt F) (tM.view.loc (c : Thread nD τ)))

/-- A logits slot's semaphore at zero, and the slot at contents `f`. -/
abbrev xcellP (s : Fin 4) : sProp 𝕄 := semVal ((c : Thread nD τ), SemLoc.dma (xcell s).sem) 0
abbrev xslotP (s : Fin 4) (f : Buf (Elt F) ((xslot s).view.loc (c : Thread nD τ))) : sProp 𝕄 :=
  (xslot s).view.loc (c : Thread nD τ) ↦[(xslot s).view.set]{fullShare} f
/-- Block `b` of the logits held at the array's contents. -/
abbrev xhomeP (b : Fin 32) : sProp 𝕄 := (xblk b).view.loc (c : Thread nD τ) ↦[(xblk b).view.set]{fullShare} XA
/-- Block `b`'s words, as a slot receives them. -/
abbrev xpay (b : Fin 32) : S1000x1024.Idx → Elt F .f32 := ReadAs.same.apply ((xblk b).view.read (Elt F) XA)
/-- What block `b`'s transfer leaves in slot `s` over `f`. -/
abbrev xland (s : Fin 4) (b : Fin 32) (f : Buf (Elt F) ((xslot s).view.loc (c : Thread nD τ))) : Buf (Elt F) ((xslot s).view.loc (c : Thread nD τ)) :=
  (xslot s).view.writes (Elt F) f [⟨Rect.whole S1000x1024, xpay c XA b⟩]
/-- The amount a logits block's transfer moves. -/
abbrev xN : ℕ := 128000
/-- Slot `s` in flight with block `b`. -/
abbrev xflyP (s : Fin 4) (b : Fin 32) (f : Buf (Elt F) ((xslot s).view.loc (c : Thread nD τ))) : sProp 𝕄 :=
  Transfers.Flight countersEmb (c : Thread nD τ) (SemLoc.dma (xcell s).sem) () xN iprop(xslotP c s (xland c XA s b f) ∗ xhomeP c XA b)

/-- The same for the labels. -/
abbrev tcellP (s : Fin 2) : sProp 𝕄 := semVal ((c : Thread nD τ), SemLoc.dma (tcell s).sem) 0
abbrev tslotP (s : Fin 2) (f : Buf (Elt F) ((tslot s).view.loc (c : Thread nD τ))) : sProp 𝕄 :=
  (tslot s).view.loc (c : Thread nD τ) ↦[(tslot s).view.set]{fullShare} f
abbrev thomeP (b : Fin 32) : sProp 𝕄 := (tblk b).view.loc (c : Thread nD τ) ↦[(tblk b).view.set]{fullShare} TA
abbrev tpay (b : Fin 32) : S1x1x1024.Idx → Elt F .i32 := ReadAs.same.apply ((tblk b).view.read (Elt F) TA)
abbrev tland (s : Fin 2) (b : Fin 32) (f : Buf (Elt F) ((tslot s).view.loc (c : Thread nD τ))) : Buf (Elt F) ((tslot s).view.loc (c : Thread nD τ)) :=
  (tslot s).view.writes (Elt F) f [⟨Rect.whole S1x1x1024, tpay c TA b⟩]
abbrev tN : ℕ := 128
abbrev tflyP (s : Fin 2) (b : Fin 32) (f : Buf (Elt F) ((tslot s).view.loc (c : Thread nD τ))) : sProp 𝕄 :=
  Transfers.Flight countersEmb (c : Thread nD τ) (SemLoc.dma (tcell s).sem) () tN iprop(tslotP c s (tland c TA s b f) ∗ thomeP c TA b)

/-- A free slot: its contents anything, its semaphore at zero. -/
abbrev xfree (p : ℕ) : sProp 𝕄 := iprop((∃ f, xslotP c (Ring.sl 4 p) f) ∗ xcellP c (Ring.sl 4 p))
abbrev tfree (p : ℕ) : sProp 𝕄 := iprop((∃ f, tslotP c (Ring.sl 2 p) f) ∗ tcellP c (Ring.sl 2 p))
/-- The slot of block `p`: in flight while there is such a block, free after. -/
def xrole (p : ℕ) : sProp 𝕄 := Ring.roleAt (NB := 32) (xfree c p) (fun b => iprop(∃ f, xflyP c XA (Ring.sl 4 p) b f)) p
def trole (p : ℕ) : sProp 𝕄 := Ring.roleAt (NB := 32) (tfree c p) (fun b => iprop(∃ f, tflyP c TA (Ring.sl 2 p) b f)) p

theorem xrole_fly {p : ℕ} (h : p < 32) : xrole c XA p = iprop(∃ f, xflyP c XA (Ring.sl 4 p) (Ring.bk 32 p) f) := Ring.roleAt_of_lt _ _ p h
theorem xrole_free {p : ℕ} (h : 32 ≤ p) : xrole c XA p = xfree (F := F) c p := Ring.roleAt_of_le _ _ p h
theorem trole_fly {p : ℕ} (h : p < 32) : trole c TA p = iprop(∃ f, tflyP c TA (Ring.sl 2 p) (Ring.bk 32 p) f) := Ring.roleAt_of_lt _ _ p h
theorem trole_free {p : ℕ} (h : 32 ≤ p) : trole c TA p = tfree (F := F) c p := Ring.roleAt_of_le _ _ p h

/-- The accumulators at given contents. -/
abbrev cntP (f : Buf (Elt F) (cntM.view.loc (c : Thread nD τ))) : sProp 𝕄 := cntM.view.loc (c : Thread nD τ) ↦[cntM.view.set]{fullShare} f
abbrev asumP (f : Buf (Elt F) (asumM.view.loc (c : Thread nD τ))) : sProp 𝕄 := asumM.view.loc (c : Thread nD τ) ↦[asumM.view.set]{fullShare} f
abbrev csumP (f : Buf (Elt F) (csumM.view.loc (c : Thread nD τ))) : sProp 𝕄 := csumM.view.loc (c : Thread nD τ) ↦[csumM.view.set]{fullShare} f
abbrev lsumP (f : Buf (Elt F) (lsumM.view.loc (c : Thread nD τ))) : sProp 𝕄 := lsumM.view.loc (c : Thread nD τ) ↦[lsumM.view.set]{fullShare} f

/-- Everything before trip `k`, the accumulators at `f1 … f4`. -/
def before (k : ℕ) (f1 : Buf (Elt F) (cntM.view.loc (c : Thread nD τ))) (f2 : Buf (Elt F) (asumM.view.loc (c : Thread nD τ)))
    (f3 : Buf (Elt F) (csumM.view.loc (c : Thread nD τ))) (f4 : Buf (Elt F) (lsumM.view.loc (c : Thread nD τ))) : sProp 𝕄 :=
  iprop(cntP c f1 ∗ asumP c f2 ∗ csumP c f3 ∗ lsumP c f4 ∗ (∃ W, owes (c : Thread nD τ) 0 W)
    ∗ bigSep (Ring.homeSet 3 k) (xhomeP c XA) ∗ bigSep (Ring.homeSet 1 k) (thomeP c TA)
    ∗ xrole c XA k ∗ xrole c XA (k + 1) ∗ xrole c XA (k + 2) ∗ xfree c (k + 3)
    ∗ trole c TA k ∗ tfree c (k + 1))

/-- The block about to start, apart from the other blocks at home. -/
theorem home_out (L k : ℕ) (h : k + L < 32) (P : Fin 32 → sProp 𝕄) :
    bigSep (Ring.homeSet L k) P = iprop(P (Ring.bk 32 (k + L)) ∗ bigSep ((Ring.homeSet L k).erase (Ring.bk 32 (k + L))) P) := by
  conv_lhs => rw [Ring.homeSet_out L k h, bigSep_insert (Ring.bkL_not_mem_erase L k)]
  rfl
/-- The block just waited for joins them: while a later block starts, -/
theorem home_back (L k : ℕ) (hL : 0 < L) (h : k + L < 32) (P : Fin 32 → sProp 𝕄) :
    bigSep (Ring.homeSet L (k + 1)) P = iprop(P (Ring.bk 32 k) ∗ bigSep ((Ring.homeSet L k).erase (Ring.bk 32 (k + L))) P) := by
  conv_lhs => rw [Ring.homeSet_succ L k h, bigSep_insert (Ring.bk_not_mem_erase L k (by omega) hL)]
  rfl
/-- and when none is left to start. -/
theorem home_back_tail (L k : ℕ) (hL : 0 < L) (h : 32 ≤ k + L) (hk : k < 32) (P : Fin 32 → sProp 𝕄) :
    bigSep (Ring.homeSet L (k + 1)) P = iprop(P (Ring.bk 32 k) ∗ bigSep (Ring.homeSet L k) P) := by
  conv_lhs => rw [Ring.homeSet_succ_tail L k h hk, bigSep_insert (Ring.bk_not_mem_homeSet L k hk hL)]
  rfl

end Pieces

/-! ## What a trip computes -/

section Values

theorem casts_block : S1000x1024.ShapeCasts S1x1000x1024 := by decide
theorem casts_unlead : S1x1000x1024.ShapeCasts S1000x1024 := by decide

/-- A block of the logits with the slot's leading unit axis, as the body loads it. -/
def lead (x : S1000x1024.Idx → Elt F .f32) : Vec F S1x1000x1024 .f32 := shapeCast S1x1000x1024 x casts_block

/-- The bin membership of one block's columns. -/
def inBin (x : S1000x1024.Idx → Elt F .f32) : FVec F S8x1024 .f32 :=
  k0_pay10 (k0_pay5 (lead x)) (iota .tc S8x1 32 [0] iota_S8x1_d0_w32) k0_pay9 3#32
/-- The four accumulators after one block. -/
def cntNext (x : S1000x1024.Idx → Elt F .f32) (a : Vec F S8x1 .f32) : Vec F S8x1 .f32 :=
  k0_pay12 (k0_pay11 (k0_pay5 (lead x)) (iota .tc S8x1 32 [0] iota_S8x1_d0_w32) k0_pay9 3#32 a)
def asumNext (x : S1000x1024.Idx → Elt F .f32) (t : S1x1x1024.Idx → Elt F .i32) (a : Vec F S8x1 .f32) : Vec F S8x1 .f32 :=
  k0_pay13 (k0_pay7 (lead x) t) (inBin x) a
def csumNext (x : S1000x1024.Idx → Elt F .f32) (a : Vec F S8x1 .f32) : Vec F S8x1 .f32 :=
  k0_pay14 (k0_pay5 (lead x)) (inBin x) a
def lsumNext (x : S1000x1024.Idx → Elt F .f32) (t : S1x1x1024.Idx → Elt F .i32) (a : Vec F S1x1 .f32) : Vec F S1x1 .f32 :=
  k0_pay15 (k0_pay8 (lead x) t) a

variable (c : Dev nD) (XA : Buf (Elt F) (xM.view.loc (c : Thread nD τ))) (TA : Buf (Elt F) (tM.view.loc (c : Thread nD τ)))

/-- The load of a landed slot through the whole buffer is the block, one unit axis in front. -/
theorem load_slot (k : Trip) (h : k0_chk2 (wC k.val)) :
    xbufM.view.readAt (Elt F) (Rect.unit (s := S4x1000x1024) (k0_off23 (wC k.val)) S1x1000x1024.size (k0_off23_inb (wC k.val) h)).toLoadRect
        (xland c XA (Ring.sl 4 k.val) (Ring.bk 32 k.val) (xslot (Ring.sl 4 k.val)).view.junk)
      = lead (xpay c XA (Ring.bk 32 k.val)) := by
  have e := View.read_writes_whole (xslot (Ring.sl 4 k.val)).view (xslot (Ring.sl 4 k.val)).view.junk (xpay c XA (Ring.bk 32 k.val))
  refine (View.readAt_unit_congr (Val := Elt F) xbufM.view (off23_eq k) _ (xslotOff_inb _) _).trans ?_
  exact (shapeCast_shapeCast _ casts_unlead casts_block).symm.trans (congrArg (fun x => shapeCast S1x1000x1024 x casts_block) e)

/-- The load of a landed labels slot is the block. -/
theorem load_tslot (k : Trip) (f) (inb) :
    (tslot (Ring.sl 2 k.val)).view.readAt (Elt F) (Rect.unit (s := S1x1x1024) ![0, 0, 0] S1x1x1024.size inb).toLoadRect
        (tland c TA (Ring.sl 2 k.val) (Ring.bk 32 k.val) f)
      = tpay c TA (Ring.bk 32 k.val) := by
  exact (View.readAt_full _ _ _).trans (View.read_writes_whole _ _ _)

/-- Storing the next accumulators leaves exactly them. -/
theorem cnt_stored (x : S1000x1024.Idx → Elt F .f32) (v : Vec F S1x1000x1024 .f32) (hv : v = lead x)
    (f : Buf (Elt F) (cntM.view.loc (c : Thread nD τ))) (inb) :
    cntM.view.writes (Elt F) f [⟨Rect.unit (s := S8x1) ![0, 0] S8x1.size inb,
        k0_pay12 (k0_pay11 (k0_pay5 v) (iota .tc S8x1 32 [0] iota_S8x1_d0_w32) k0_pay9 3#32
          (cntM.view.readAt (Elt F) (Rect.unit (s := S8x1) ![0, 0] S8x1.size inb).toLoadRect f))⟩] = cntNext x f := by
  subst hv
  refine (Memref.write_access_unit_zero_univ (Elt F) cc0_scoped0 (by decide) inb f _).trans ?_
  exact congrArg (fun a => k0_pay12 (k0_pay11 (k0_pay5 (lead x)) (iota .tc S8x1 32 [0] iota_S8x1_d0_w32) k0_pay9 3#32 a))
    (Memref.readAt_unit_zero (Elt F) cc0_scoped0 (by decide) inb f)
theorem asum_stored (x : S1000x1024.Idx → Elt F .f32) (t : S1x1x1024.Idx → Elt F .i32) (v : Vec F S1x1000x1024 .f32) (hv : v = lead x)
    (u : Vec F S1x1x1024 .i32) (hu : u = t) (f : Buf (Elt F) (asumM.view.loc (c : Thread nD τ))) (inb) :
    asumM.view.writes (Elt F) f [⟨Rect.unit (s := S8x1) ![0, 0] S8x1.size inb,
        k0_pay13 (k0_pay7 v u) (k0_pay10 (k0_pay5 v) (iota .tc S8x1 32 [0] iota_S8x1_d0_w32) k0_pay9 3#32)
          (asumM.view.readAt (Elt F) (Rect.unit (s := S8x1) ![0, 0] S8x1.size inb).toLoadRect f)⟩] = asumNext x t f := by
  subst hv hu
  refine (Memref.write_access_unit_zero_univ (Elt F) cc0_scoped1 (by decide) inb f _).trans ?_
  exact congrArg (fun a => k0_pay13 (k0_pay7 (lead x) u) (inBin x) a) (Memref.readAt_unit_zero (Elt F) cc0_scoped1 (by decide) inb f)
theorem csum_stored (x : S1000x1024.Idx → Elt F .f32) (v : Vec F S1x1000x1024 .f32) (hv : v = lead x)
    (f : Buf (Elt F) (csumM.view.loc (c : Thread nD τ))) (inb) :
    csumM.view.writes (Elt F) f [⟨Rect.unit (s := S8x1) ![0, 0] S8x1.size inb,
        k0_pay14 (k0_pay5 v) (k0_pay10 (k0_pay5 v) (iota .tc S8x1 32 [0] iota_S8x1_d0_w32) k0_pay9 3#32)
          (csumM.view.readAt (Elt F) (Rect.unit (s := S8x1) ![0, 0] S8x1.size inb).toLoadRect f)⟩] = csumNext x f := by
  subst hv
  refine (Memref.write_access_unit_zero_univ (Elt F) cc0_scoped2 (by decide) inb f _).trans ?_
  exact congrArg (fun a => k0_pay14 (k0_pay5 (lead x)) (inBin x) a) (Memref.readAt_unit_zero (Elt F) cc0_scoped2 (by decide) inb f)
theorem lsum_stored (x : S1000x1024.Idx → Elt F .f32) (t : S1x1x1024.Idx → Elt F .i32) (v : Vec F S1x1000x1024 .f32) (hv : v = lead x)
    (u : Vec F S1x1x1024 .i32) (hu : u = t) (f : Buf (Elt F) (lsumM.view.loc (c : Thread nD τ))) (inb) :
    lsumM.view.writes (Elt F) f [⟨Rect.unit (s := S1x1) ![0, 0] S1x1.size inb,
        k0_pay15 (k0_pay8 v u) (lsumM.view.readAt (Elt F) (Rect.unit (s := S1x1) ![0, 0] S1x1.size inb).toLoadRect f)⟩] = lsumNext x t f := by
  subst hv hu
  refine (Memref.write_access_unit_zero_univ (Elt F) cc0_scoped3 (by decide) inb f _).trans ?_
  exact congrArg (fun a => k0_pay15 (k0_pay8 (lead x) u) a) (Memref.readAt_unit_zero (Elt F) cc0_scoped3 (by decide) inb f)

end Values

abbrev tripAt (w1 w2 w3 w4 : BitVec 32) (b1 b2 : BitVec 1) (k : Trip) (w : BitVec 32 × BitVec 32 × BitVec 32 × BitVec 32 × BitVec 32) :
    Prog (TpuEff nD τ sig (Elt F) Λ₀ .tc) (BitVec 32 × BitVec 32 × BitVec 32 × BitVec 32 × BitVec 32) :=
  k0_t1_body (F := F) (grid0.coords t0_0) xM (Memref.isWhole_whole _) tM (Memref.isWhole_whole _) oM (Memref.isWhole_whole _)
    cntM (Memref.isWhole_whole _) asumM (Memref.isWhole_whole _) csumM (Memref.isWhole_whole _) lsumM (Memref.isWhole_whole _) resM (Memref.isWhole_whole _)
    cc0_scoped5 xbufM (Memref.isWhole_whole _) cc0_scoped7 tbufM (Memref.isWhole_whole _) cc0_scoped9 w1 w2 w3 w4 b1 b2 k w

section Trip
variable (c : Dev nD) (XA : Buf (Elt F) (xM.view.loc (c : Thread nD τ))) (TA : Buf (Elt F) (tM.view.loc (c : Thread nD τ)))

omit [FloatOps F] in
theorem of_eq {P Q : sProp 𝕄} (e : P = Q) : P ⊢ Q := e ▸ .rfl

/-- The accumulators' stores of one trip, taken together. -/
theorem accs_stored (k : Trip) (h : k0_chk2 (wC k.val)) (f1 f2 f3 f4) (i1 i2 i3 i4 it) :
    let R := (Rect.unit (s := S8x1) ![0, 0] S8x1.size i1)
    let v := xbufM.view.readAt (Elt F) (Rect.unit (s := S4x1000x1024) (k0_off23 (wC k.val)) S1x1000x1024.size (k0_off23_inb (wC k.val) h)).toLoadRect
        (xland c XA (Ring.sl 4 k.val) (Ring.bk 32 k.val) (xslot (Ring.sl 4 k.val)).view.junk)
    let u := (tslot (Ring.sl 2 k.val)).view.readCov [⟨Rect.whole S1x1x1024, tpay c TA (Ring.bk 32 k.val)⟩] (Rect.unit (s := S1x1x1024) ![0, 0, 0] S1x1x1024.size it).toLoadRect
    let b := k0_pay10 (k0_pay5 v) (iota .tc S8x1 32 [0] iota_S8x1_d0_w32) k0_pay9 3#32
    iprop(cntP c (cntM.view.writes (Elt F) f1 [⟨R, k0_pay12 (k0_pay11 (k0_pay5 v) (iota .tc S8x1 32 [0] iota_S8x1_d0_w32) k0_pay9 3#32 (cntM.view.readAt (Elt F) (Rect.unit (s := S8x1) ![0, 0] S8x1.size i1).toLoadRect f1))⟩])
      ∗ asumP c (asumM.view.writes (Elt F) f2 [⟨Rect.unit (s := S8x1) ![0, 0] S8x1.size i2, k0_pay13 (k0_pay7 v u) b (asumM.view.readAt (Elt F) (Rect.unit (s := S8x1) ![0, 0] S8x1.size i2).toLoadRect f2)⟩])
      ∗ csumP c (csumM.view.writes (Elt F) f3 [⟨Rect.unit (s := S8x1) ![0, 0] S8x1.size i3, k0_pay14 (k0_pay5 v) b (csumM.view.readAt (Elt F) (Rect.unit (s := S8x1) ![0, 0] S8x1.size i3).toLoadRect f3)⟩])
      ∗ lsumP c (lsumM.view.writes (Elt F) f4 [⟨Rect.unit (s := S1x1) ![0, 0] S1x1.size i4, k0_pay15 (k0_pay8 v u) (lsumM.view.readAt (Elt F) (Rect.unit (s := S1x1) ![0, 0] S1x1.size i4).toLoadRect f4)⟩]))
    ⊢ iprop(cntP c (cntNext (xpay c XA (Ring.bk 32 k.val)) f1) ∗ asumP c (asumNext (xpay c XA (Ring.bk 32 k.val)) (tpay c TA (Ring.bk 32 k.val)) f2)
      ∗ csumP c (csumNext (xpay c XA (Ring.bk 32 k.val)) f3) ∗ lsumP c (lsumNext (xpay c XA (Ring.bk 32 k.val)) (tpay c TA (Ring.bk 32 k.val)) f4)) := by
  intro R v u b
  have hv := load_slot c XA k h
  have hu := load_tslot c TA k (tslot (Ring.sl 2 k.val)).view.junk it
  have e1 := cnt_stored c _ v hv f1 i1
  have e2 := asum_stored c _ _ v hv u hu f2 i2
  have e3 := csum_stored c _ v hv f3 i3
  have e4 := lsum_stored c _ _ v hv u hu f4 i4
  exact BI.sep_mono (of_eq (congrArg (cntP c) e1)) (BI.sep_mono (of_eq (congrArg (asumP c) e2)) (BI.sep_mono (of_eq (congrArg (csumP c) e3)) (of_eq (congrArg (lsumP c) e4))))

theorem xfree_turn (k : ℕ) : xfree (F := F) c (k + 1 + 3) = xfree c k := by
  unfold xfree; rw [Ring.sl_succ_add 4 k 3 rfl]
theorem tfree_turn (k : ℕ) : tfree (F := F) c (k + 1 + 1) = tfree c k := by
  unfold tfree; rw [Ring.sl_succ_add 2 k 1 rfl]

/-- What a trip from block `k` leaves, the accumulators advanced by the block. -/
abbrev after (k : ℕ) (f1 : Buf (Elt F) (cntM.view.loc (c : Thread nD τ))) (f2 : Buf (Elt F) (asumM.view.loc (c : Thread nD τ)))
    (f3 : Buf (Elt F) (csumM.view.loc (c : Thread nD τ))) (f4 : Buf (Elt F) (lsumM.view.loc (c : Thread nD τ))) : sProp 𝕄 :=
  before c XA TA (k + 1) (cntNext (xpay c XA (Ring.bk 32 k)) f1) (asumNext (xpay c XA (Ring.bk 32 k)) (tpay c TA (Ring.bk 32 k)) f2)
    (csumNext (xpay c XA (Ring.bk 32 k)) f3) (lsumNext (xpay c XA (Ring.bk 32 k)) (tpay c TA (Ring.bk 32 k)) f4)

/-- A trip that starts a block of each operand. -/
theorem trip_both (w1 w2 w3 w4 : BitVec 32) (b1 b2 : BitVec 1) (k : Trip) (hk : k.val < 29) (f1 f2 f3 f4) :
    before c XA TA k.val f1 f2 f3 f4 ⊢ wp frame (wpE (defs₀ (F := F)) 𝒱₀ (c : Thread nD τ) none) Set.univ (tripAt w1 w2 w3 w4 b1 b2 k (carried k.val))
        (fun w => iprop(⌜w = carried (k.val + 1)⌝ ∗ after c XA TA k.val f1 f2 f3 f4)) := by
  have hk31 : k.val < 31 := by omega
  have h3 := (cond3_iff k).2 hk
  have h4 := (cond4_iff k).2 hk31
  have h5 := cond5_yes k
  have h6 := cond6_yes k
  have c1 := chk1_all k
  have c2 := chk2_all k
  have c3 := chk3_all k
  unfold after before
  rw [xrole_fly c XA (p := k.val) (by omega), trole_fly c TA (p := k.val) (by omega), xfree_turn, tfree_turn,
    xrole_fly c XA (p := k.val + 1 + 2) (by omega), trole_fly c TA (p := k.val + 1) (by omega),
    home_out 3 k.val (by omega), home_out 1 k.val (by omega), home_back 3 k.val (by omega) (by omega), home_back 1 k.val (by omega) (by omega)]
  iintro ⟨H1, H2, H3, H4, ⟨%W, HW⟩, ⟨Hx, Hxr⟩, ⟨Ht, Htr⟩, ⟨%f5, HX0⟩, HX1, HX2, ⟨⟨%f6, HXs⟩, HXc⟩, ⟨%f7, HT0⟩, ⟨⟨%f8, HTs⟩, HTc⟩⟩
  dsimp only [tripAt, carried]
  sl_unfold [k0_t1_body]
  sl_exec
  sl_step
  isplitr
  · ipureintro
    refine Prod.ext ?_ (Prod.ext ?_ (Prod.ext ?_ (Prod.ext ?_ ?_)))
    all_goals (clear * - k; revert k; decide +kernel)
  ihave Ha := (accs_stored c XA TA k c2 f1 f2 f3 f4 (by decide) (by decide) (by decide) (by decide) (by decide)) $$ [H1 H2 H3 H4]
  · isplitl [H1]; · iexact H1
    isplitl [H2]; · iexact H2
    isplitl [H3]; · iexact H3
    iexact H4
  icases Ha with ⟨H1, H2, H3, H4⟩
  isplitl [H1]; · iexact H1
  isplitl [H2]; · iexact H2
  isplitl [H3]; · iexact H3
  isplitl [H4]; · iexact H4
  isplitl [HW]; · iexists _; iexact HW
  isplitl [HX0_src Hxr]
  · isplitl [HX0_src]; · iexact HX0_src
    iexact Hxr
  isplitl [HT0_src Htr]
  · isplitl [HT0_src]; · iexact HT0_src
    iexact Htr
  isplitl [HX1]; · iexact HX1
  isplitl [HX2]; · iexact HX2
  isplitl [HXc]; · iexists f6; iexact HXc
  isplitl [HX0_dst HX0]
  · isplitl [HX0_dst]; · iexists _; iexact HX0_dst
    iexact HX0
  isplitl [HTc]; · iexists f8; iexact HTc
  isplitl [HT0_dst]; · iexists _; iexact HT0_dst
  iexact HT0

/-- A trip that starts a block of the labels only: every block of the logits has started. -/
theorem trip_labels (w1 w2 w3 w4 : BitVec 32) (b1 b2 : BitVec 1) (k : Trip) (hk : 29 ≤ k.val) (hk31 : k.val < 31) (f1 f2 f3 f4) :
    before c XA TA k.val f1 f2 f3 f4 ⊢ wp frame (wpE (defs₀ (F := F)) 𝒱₀ (c : Thread nD τ) none) Set.univ (tripAt w1 w2 w3 w4 b1 b2 k (carried k.val))
        (fun w => iprop(⌜w = carried (k.val + 1)⌝ ∗ after c XA TA k.val f1 f2 f3 f4)) := by
  have h3 := mt (cond3_iff k).1 (by omega : ¬ k.val < 29)
  have h4 := (cond4_iff k).2 hk31
  have h5 := cond5_yes k
  have h6 := cond6_yes k
  have c1 := chk1_all k
  have c2 := chk2_all k
  have c3 := chk3_all k
  unfold after before
  rw [xrole_fly c XA (p := k.val) (by omega), trole_fly c TA (p := k.val) (by omega), xfree_turn, tfree_turn,
    xrole_free c XA (p := k.val + 1 + 2) (by omega), trole_fly c TA (p := k.val + 1) (by omega),
    home_out 1 k.val (by omega), home_back_tail 3 k.val (by omega) (by omega) (by omega), home_back 1 k.val (by omega) (by omega)]
  iintro ⟨H1, H2, H3, H4, ⟨%W, HW⟩, Hxr, ⟨Ht, Htr⟩, ⟨%f5, HX0⟩, HX1, HX2, ⟨⟨%f6, HXs⟩, HXc⟩, ⟨%f7, HT0⟩, ⟨⟨%f8, HTs⟩, HTc⟩⟩
  dsimp only [tripAt, carried]
  sl_unfold [k0_t1_body]
  sl_exec
  sl_step
  isplitr
  · ipureintro
    refine Prod.ext ?_ (Prod.ext ?_ (Prod.ext ?_ (Prod.ext ?_ ?_)))
    all_goals (clear * - k hk hk31; revert k; decide +kernel)
  ihave Ha := (accs_stored c XA TA k c2 f1 f2 f3 f4 (by decide) (by decide) (by decide) (by decide) (by decide)) $$ [H1 H2 H3 H4]
  · isplitl [H1]; · iexact H1
    isplitl [H2]; · iexact H2
    isplitl [H3]; · iexact H3
    iexact H4
  icases Ha with ⟨H1, H2, H3, H4⟩
  isplitl [H1]; · iexact H1
  isplitl [H2]; · iexact H2
  isplitl [H3]; · iexact H3
  isplitl [H4]; · iexact H4
  isplitl [HW]; · iexists _; iexact HW
  isplitl [HX0_src Hxr]
  · isplitl [HX0_src]; · iexact HX0_src
    iexact Hxr
  isplitl [HT0_src Htr]
  · isplitl [HT0_src]; · iexact HT0_src
    iexact Htr
  isplitl [HX1]; · iexact HX1
  isplitl [HX2]; · iexact HX2
  isplitl [HXs HXc]
  · isplitl [HXs]; · iexists f6; iexact HXs
    iexact HXc
  isplitl [HX0_dst HX0]
  · isplitl [HX0_dst]; · iexists _; iexact HX0_dst
    iexact HX0
  isplitl [HTc]; · iexists f8; iexact HTc
  isplitl [HT0_dst]; · iexists _; iexact HT0_dst
  iexact HT0

/-- The last trip, which starts nothing. -/
theorem trip_last (w1 w2 w3 w4 : BitVec 32) (b1 b2 : BitVec 1) (k : Trip) (hk : k.val = 31) (f1 f2 f3 f4) :
    before c XA TA k.val f1 f2 f3 f4 ⊢ wp frame (wpE (defs₀ (F := F)) 𝒱₀ (c : Thread nD τ) none) Set.univ (tripAt w1 w2 w3 w4 b1 b2 k (carried k.val))
        (fun w => iprop(⌜w = carried (k.val + 1)⌝ ∗ after c XA TA k.val f1 f2 f3 f4)) := by
  have h3 := mt (cond3_iff k).1 (by omega : ¬ k.val < 29)
  have h4 := mt (cond4_iff k).1 (by omega : ¬ k.val < 31)
  have h5 := cond5_yes k
  have h6 := cond6_yes k
  have c1 := chk1_all k
  have c2 := chk2_all k
  have c3 := chk3_all k
  unfold after before
  rw [xrole_fly c XA (p := k.val) (by omega), trole_fly c TA (p := k.val) (by omega), xfree_turn, tfree_turn,
    xrole_free c XA (p := k.val + 1 + 2) (by omega), trole_free c TA (p := k.val + 1) (by omega),
    home_back_tail 3 k.val (by omega) (by omega) (by omega), home_back_tail 1 k.val (by omega) (by omega) (by omega)]
  iintro ⟨H1, H2, H3, H4, ⟨%W, HW⟩, Hxr, Htr, ⟨%f5, HX0⟩, HX1, HX2, ⟨⟨%f6, HXs⟩, HXc⟩, ⟨%f7, HT0⟩, ⟨⟨%f8, HTs⟩, HTc⟩⟩
  dsimp only [tripAt, carried]
  sl_unfold [k0_t1_body]
  sl_exec
  sl_step
  isplitr
  · ipureintro
    refine Prod.ext ?_ (Prod.ext ?_ (Prod.ext ?_ (Prod.ext ?_ ?_)))
    all_goals (clear * - k hk; revert k; decide +kernel)
  ihave Ha := (accs_stored c XA TA k c2 f1 f2 f3 f4 (by decide) (by decide) (by decide) (by decide) (by decide)) $$ [H1 H2 H3 H4]
  · isplitl [H1]; · iexact H1
    isplitl [H2]; · iexact H2
    isplitl [H3]; · iexact H3
    iexact H4
  icases Ha with ⟨H1, H2, H3, H4⟩
  isplitl [H1]; · iexact H1
  isplitl [H2]; · iexact H2
  isplitl [H3]; · iexact H3
  isplitl [H4]; · iexact H4
  isplitl [HW]; · iexists _; iexact HW
  isplitl [HX0_src Hxr]
  · isplitl [HX0_src]; · iexact HX0_src
    iexact Hxr
  isplitl [HT0_src Htr]
  · isplitl [HT0_src]; · iexact HT0_src
    iexact Htr
  isplitl [HX1]; · iexact HX1
  isplitl [HX2]; · iexact HX2
  isplitl [HXs HXc]
  · isplitl [HXs]; · iexists f6; iexact HXs
    iexact HXc
  isplitl [HX0_dst HX0]
  · isplitl [HX0_dst]; · iexists _; iexact HX0_dst
    iexact HX0
  isplitl [HTs HTc]
  · isplitl [HTs]; · iexists f8; iexact HTs
    iexact HTc
  isplitl [HT0_dst]; · iexists _; iexact HT0_dst
  iexact HT0

end Trip

end Cert.Proof.Stream

end
-- ==== Proof.Body.lean ====
/-
  The kernel's body: the prologue's transfers, the loop, the last store and the result's transfer.
-/
module

public import proofs.«01_k».proof.Proof.Trip
public import proofs.«01_k».proof.Proof.Gen.Kernel.Points

@[expose] public section

set_option maxRecDepth 16384

noncomputable section

namespace Cert.Proof.Stream

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ UU ℕ

section Loop
variable (c : Dev nD) (XA : Buf (Elt F) (xM.view.loc (c : Thread nD τ))) (TA : Buf (Elt F) (tM.view.loc (c : Thread nD τ)))

/-- The accumulators before trip `k`. -/
def cntAt : ℕ → Vec F S8x1 .f32 | 0 => k0_pay16 | k + 1 => cntNext (xpay c XA (Ring.bk 32 k)) (cntAt k)
def asumAt : ℕ → Vec F S8x1 .f32 | 0 => k0_pay17 | k + 1 => asumNext (xpay c XA (Ring.bk 32 k)) (tpay c TA (Ring.bk 32 k)) (asumAt k)
def csumAt : ℕ → Vec F S8x1 .f32 | 0 => k0_pay18 | k + 1 => csumNext (xpay c XA (Ring.bk 32 k)) (csumAt k)
def lsumAt : ℕ → Vec F S1x1 .f32 | 0 => k0_pay19 | k + 1 => lsumNext (xpay c XA (Ring.bk 32 k)) (tpay c TA (Ring.bk 32 k)) (lsumAt k)

/-- Everything before trip `k`. -/
def invAt (k : ℕ) : sProp 𝕄 := before c XA TA k (cntAt c XA k) (asumAt c XA TA k) (csumAt c XA k) (lsumAt c XA TA k)

/-- A trip takes what is held before it to what is held before the next. -/
theorem trip (w1 w2 w3 w4 : BitVec 32) (b1 b2 : BitVec 1) (k : Trip) : invAt c XA TA k.val ⊢ wp frame (wpE (defs₀ (F := F)) 𝒱₀ (c : Thread nD τ) none) Set.univ (tripAt w1 w2 w3 w4 b1 b2 k (carried k.val))
    (fun w => iprop(⌜w = carried (k.val + 1)⌝ ∗ invAt c XA TA (k.val + 1))) := by
  have hk := trip_lt k
  unfold invAt
  rcases Nat.lt_or_ge k.val 29 with h | h
  · exact trip_both c XA TA w1 w2 w3 w4 b1 b2 k h _ _ _ _
  rcases Nat.lt_or_ge k.val 31 with h' | h'
  · exact trip_labels c XA TA w1 w2 w3 w4 b1 b2 k h h' _ _ _ _
  exact trip_last c XA TA w1 w2 w3 w4 b1 b2 k (by omega) _ _ _ _

/-- The loop's invariant. -/
abbrev loopInv (w1 w2 w3 w4 : BitVec 32) (b1 b2 : BitVec 1) (init : BitVec 32 × BitVec 32 × BitVec 32 × BitVec 32 × BitVec 32) :
    LoopInvTy_k0_t1 (F := F) Unit ℕ UU ℕ 𝒱₀ c none Set.univ (grid0.coords t0_0) xM (Memref.isWhole_whole _) tM (Memref.isWhole_whole _) oM (Memref.isWhole_whole _)
      cntM (Memref.isWhole_whole _) asumM (Memref.isWhole_whole _) csumM (Memref.isWhole_whole _) lsumM (Memref.isWhole_whole _) resM (Memref.isWhole_whole _)
      cc0_scoped5 xbufM (Memref.isWhole_whole _) cc0_scoped7 tbufM (Memref.isWhole_whole _) cc0_scoped9 w1 w2 w3 w4 b1 b2 init where
  inv k w := iprop(⌜w = carried k⌝ ∗ invAt c XA TA k)
  step k w := by
    iintro ⟨%e, H⟩
    subst e
    iapply (trip c XA TA w1 w2 w3 w4 b1 b2 k); iexact H

/-- The loop, from before its first trip to after its last. -/
theorem loop_run (w1 w2 w3 w4 : BitVec 32) (b1 b2 : BitVec 1) {β : Type} {kk : BitVec 32 × BitVec 32 × BitVec 32 × BitVec 32 × BitVec 32 → Prog (TpuEff nD τ sig (Elt F) Λ₀ .tc) β}
    {Q : β → sProp 𝕄} :
    invAt c XA TA 0 ⊢ iprop((invAt c XA TA 32 -∗ wp frame (wpE (defs₀ (F := F)) 𝒱₀ (c : Thread nD τ) none) Set.univ (kk (carried 32)) Q)
      -∗ wp frame (wpE (defs₀ (F := F)) 𝒱₀ (c : Thread nD τ) none) Set.univ
        (k0_t1_loop.for k0_t1_ok (3#32, 0#32, 1#32, 0#32, 0#32) (tripAt (F := F) w1 w2 w3 w4 b1 b2) >>= kk) Q) := by
  have h := exec_loop frame (wpE (defs₀ (F := F)) 𝒱₀ (c : Thread nD τ) none) Set.univ _ _ _ _ _ _
    (loopInv c XA TA w1 w2 w3 w4 b1 b2 (3#32, 0#32, 1#32, 0#32, 0#32)) (kk := kk) (Q := Q)
  have h0 : (loopInv c XA TA w1 w2 w3 w4 b1 b2 (3#32, 0#32, 1#32, 0#32, 0#32)).inv 0 (3#32, 0#32, 1#32, 0#32, 0#32)
      = iprop(⌜((3#32, 0#32, 1#32, 0#32, 0#32) : BitVec 32 × BitVec 32 × BitVec 32 × BitVec 32 × BitVec 32) = carried 0⌝ ∗ invAt c XA TA 0) := rfl
  have h1 : ∀ acc, (loopInv c XA TA w1 w2 w3 w4 b1 b2 (3#32, 0#32, 1#32, 0#32, 0#32)).inv (Scf.trips k0_t1_loop.lb k0_t1_loop.ub k0_t1_loop.st) acc
      = iprop(⌜acc = carried 32⌝ ∗ invAt c XA TA 32) := fun acc => by
    rw [show Scf.trips k0_t1_loop.lb k0_t1_loop.ub k0_t1_loop.st = 32 from trips_eq]; rfl
  rw [h0] at h
  simp only [h1] at h
  iintro HI HK
  iapply h $$ [HI]
  · isplitr; · ipureintro; decide
    iexact HI
  iintro %acc ⟨%e, HI⟩
  subst e
  iapply HK; iexact HI

end Loop

section Body
variable (c : Dev nD) (XA : Buf (Elt F) (xM.view.loc (c : Thread nD τ))) (TA : Buf (Elt F) (tM.view.loc (c : Thread nD τ)))

abbrev resP (f : Buf (Elt F) (resM.view.loc (c : Thread nD τ))) : sProp 𝕄 := resM.view.loc (c : Thread nD τ) ↦[resM.view.set]{fullShare} f
abbrev outP (f : Buf (Elt F) (oM.view.loc (c : Thread nD τ))) : sProp 𝕄 := oM.view.loc (c : Thread nD τ) ↦[oM.view.set]{fullShare} f
abbrev outCellP : sProp 𝕄 := semVal ((c : Thread nD τ), SemLoc.dma cc0_scoped5.sem) 0

/-- What the body is handed. -/
abbrev PRE (W : Waits sig Unit) : sProp 𝕄 :=
  iprop((∃ f, cntP c f) ∗ (∃ f, asumP c f) ∗ (∃ f, csumP c f) ∗ (∃ f, lsumP c f) ∗ (∃ f, resP c f) ∗ (∃ f, outP c f) ∗ outCellP c
    ∗ owes (c : Thread nD τ) 0 W
    ∗ (xhomeP c XA 0 ∗ xhomeP c XA 1 ∗ xhomeP c XA 2 ∗ bigSep (Ring.homeSet 3 0) (xhomeP c XA))
    ∗ (thomeP c TA 0 ∗ bigSep (Ring.homeSet 1 0) (thomeP c TA))
    ∗ ((∃ f, xslotP c 0 f) ∗ xcellP c 0) ∗ ((∃ f, xslotP c 1 f) ∗ xcellP c 1) ∗ ((∃ f, xslotP c 2 f) ∗ xcellP c 2) ∗ ((∃ f, xslotP c 3 f) ∗ xcellP c 3)
    ∗ ((∃ f, tslotP c 0 f) ∗ tcellP c 0) ∗ ((∃ f, tslotP c 1 f) ∗ tcellP c 1))

/-- What the body leaves in the result. -/
def outOf : Vec F S1x1 .f32 := k0_pay1 (k0_pay20 (cntAt c XA 32) (csumAt c XA 32) (asumAt c XA TA 32)) (lsumAt c XA TA 32)

/-- What it hands back. -/
abbrev POST : sProp 𝕄 :=
  iprop((∃ f, cntP c f) ∗ (∃ f, asumP c f) ∗ (∃ f, csumP c f) ∗ (∃ f, lsumP c f) ∗ (∃ f, resP c f) ∗ outP c (outOf c XA TA) ∗ outCellP c
    ∗ (∃ W, owes (c : Thread nD τ) 0 W)
    ∗ bigSep Finset.univ (xhomeP c XA) ∗ bigSep Finset.univ (thomeP c TA)
    ∗ ((∃ f, xslotP c 0 f) ∗ xcellP c 0) ∗ ((∃ f, xslotP c 1 f) ∗ xcellP c 1) ∗ ((∃ f, xslotP c 2 f) ∗ xcellP c 2) ∗ ((∃ f, xslotP c 3 f) ∗ xcellP c 3)
    ∗ ((∃ f, tslotP c 0 f) ∗ tcellP c 0) ∗ ((∃ f, tslotP c 1 f) ∗ tcellP c 1))

/-- The first block's place in each ring, and the places after the last block's. -/
theorem places : Ring.sl 4 0 = 0 ∧ Ring.sl 4 (0 + 1) = 1 ∧ Ring.sl 4 (0 + 2) = 2 ∧ Ring.sl 4 (0 + 3) = 3 ∧ Ring.sl 2 0 = 0 ∧ Ring.sl 2 (0 + 1) = 1
    ∧ Ring.bk 32 0 = 0 ∧ Ring.bk 32 (0 + 1) = 1 ∧ Ring.bk 32 (0 + 2) = 2 := by decide
theorem places_end : Ring.sl 4 32 = 0 ∧ Ring.sl 4 (32 + 1) = 1 ∧ Ring.sl 4 (32 + 2) = 2 ∧ Ring.sl 4 (32 + 3) = 3 ∧ Ring.sl 2 32 = 0 ∧ Ring.sl 2 (32 + 1) = 1 := by decide

/-- Before the first trip: three blocks of the logits and one of the labels in flight. -/
theorem inv_zero : invAt c XA TA 0 = iprop(cntP c k0_pay16 ∗ asumP c k0_pay17 ∗ csumP c k0_pay18 ∗ lsumP c k0_pay19 ∗ (∃ W, owes (c : Thread nD τ) 0 W)
    ∗ bigSep (Ring.homeSet 3 0) (xhomeP c XA) ∗ bigSep (Ring.homeSet 1 0) (thomeP c TA)
    ∗ (∃ f, xflyP c XA 0 0 f) ∗ (∃ f, xflyP c XA 1 1 f) ∗ (∃ f, xflyP c XA 2 2 f) ∗ ((∃ f, xslotP c 3 f) ∗ xcellP c 3)
    ∗ (∃ f, tflyP c TA 0 0 f) ∗ ((∃ f, tslotP c 1 f) ∗ tcellP c 1)) := by
  obtain ⟨a, b, d, e, g, h, i, j, k⟩ := places
  unfold invAt before
  rw [xrole_fly c XA (p := 0) (by omega), xrole_fly c XA (p := 0 + 1) (by omega), xrole_fly c XA (p := 0 + 2) (by omega), trole_fly c TA (p := 0) (by omega)]
  unfold xfree tfree
  rw [a, b, d, e, g, h, i, j, k]
  rfl
/-- After the last: every block home, every slot free. -/
theorem inv_end : invAt c XA TA 32 = iprop(cntP c (cntAt c XA 32) ∗ asumP c (asumAt c XA TA 32) ∗ csumP c (csumAt c XA 32) ∗ lsumP c (lsumAt c XA TA 32)
    ∗ (∃ W, owes (c : Thread nD τ) 0 W) ∗ bigSep Finset.univ (xhomeP c XA) ∗ bigSep Finset.univ (thomeP c TA)
    ∗ ((∃ f, xslotP c 0 f) ∗ xcellP c 0) ∗ ((∃ f, xslotP c 1 f) ∗ xcellP c 1) ∗ ((∃ f, xslotP c 2 f) ∗ xcellP c 2) ∗ ((∃ f, xslotP c 3 f) ∗ xcellP c 3)
    ∗ ((∃ f, tslotP c 0 f) ∗ tcellP c 0) ∗ ((∃ f, tslotP c 1 f) ∗ tcellP c 1)) := by
  obtain ⟨a, b, d, e, g, h⟩ := places_end
  unfold invAt before
  rw [xrole_free c XA (p := 32) (by omega), xrole_free c XA (p := 32 + 1) (by omega), xrole_free c XA (p := 32 + 2) (by omega), trole_free c TA (p := 32) (by omega)]
  unfold xfree tfree
  rw [a, b, d, e, g, h, Ring.homeSet_last _ _ le_rfl, Ring.homeSet_last _ _ le_rfl]

/-- The result after its transfer: the last store's payload, over the loaded accumulators. -/
theorem out_stored (f5 : Buf (Elt F) (resM.view.loc (c : Thread nD τ))) (f6 : Buf (Elt F) (oM.view.loc (c : Thread nD τ))) (i8 i1) :
    oM.view.writes (Elt F) f6 [⟨Rect.whole S1x1, ReadAs.same.apply (resM.view.read (Elt F) (resM.view.writes (Elt F) f5
      [⟨Rect.unit (s := S1x1) ![0, 0] S1x1.size i1,
        k0_pay1 (k0_pay20 (cntM.view.readAt (Elt F) (Rect.unit (s := S8x1) ![0, 0] S8x1.size i8).toLoadRect (cntAt c XA 32))
            (csumM.view.readAt (Elt F) (Rect.unit (s := S8x1) ![0, 0] S8x1.size i8).toLoadRect (csumAt c XA 32))
            (asumM.view.readAt (Elt F) (Rect.unit (s := S8x1) ![0, 0] S8x1.size i8).toLoadRect (asumAt c XA TA 32)))
          (lsumM.view.readAt (Elt F) (Rect.unit (s := S1x1) ![0, 0] S1x1.size i1).toLoadRect (lsumAt c XA TA 32))⟩]))⟩]
      = outOf c XA TA := by
  have z : (![0, 0] : Fin 2 → ℕ) = fun _ => 0 := by decide
  refine (View.read_writes_whole oM.view f6 _).trans ?_
  refine (LaneScatter.read_whole_store resM.view f5 (congrFun z) i1 _).trans ?_
  have e0 := Memref.readAt_unit_zero (Elt F) cc0_scoped0 z i8 (cntAt c XA 32)
  have e1 := Memref.readAt_unit_zero (Elt F) cc0_scoped1 z i8 (asumAt c XA TA 32)
  have e2 := Memref.readAt_unit_zero (Elt F) cc0_scoped2 z i8 (csumAt c XA 32)
  have e3 := Memref.readAt_unit_zero (Elt F) cc0_scoped3 z i1 (lsumAt c XA TA 32)
  exact congrArg₂ k0_pay1 (congr (congrArg₂ k0_pay20 e0 e2) e1) e3

theorem bodyRun (W) (Q : PUnit → sProp 𝕄) :
    iprop(PRE c XA TA W ∗ (POST c XA TA -∗ Q ⟨⟩))
      ⊢ wp frame (wpE (defs₀ (F := F)) 𝒱₀ (c : Thread nD τ) none) Set.univ (bodyAt0 t0_0) Q := by
  iintro ⟨⟨⟨%f1, H1⟩, ⟨%f2, H2⟩, ⟨%f3, H3⟩, ⟨%f4, H4⟩, ⟨%f5, HR⟩, ⟨%f6, HO⟩, HOc, HW, ⟨Hx0, Hx1, Hx2, Hxr⟩, ⟨Ht0, Htr⟩,
    ⟨⟨%s0, HX0⟩, HXc0⟩, ⟨⟨%s1, HX1⟩, HXc1⟩, ⟨⟨%s2, HX2⟩, HXc2⟩, HX3, ⟨⟨%u0, HT0⟩, HTc0⟩, HT1⟩, Hk⟩
  sl_exec
  ihave HI := (of_eq (inv_zero c XA TA).symm) $$ [H1 H2 H3 H4 HW Hxr Htr HXc0 HXc1 HXc2 HX3 HTc0 HT1]
  · isplitl [H1]
    · iapply (of_eq (congrArg (cntP c) (Memref.write_access_unit_zero_univ (Elt F) cc0_scoped0 (show ![0, 0] = fun _ => 0 by decide) (by decide) _ k0_pay16))); iexact H1
    isplitl [H2]
    · iapply (of_eq (congrArg (asumP c) (Memref.write_access_unit_zero_univ (Elt F) cc0_scoped1 (show ![0, 0] = fun _ => 0 by decide) (by decide) _ k0_pay17))); iexact H2
    isplitl [H3]
    · iapply (of_eq (congrArg (csumP c) (Memref.write_access_unit_zero_univ (Elt F) cc0_scoped2 (show ![0, 0] = fun _ => 0 by decide) (by decide) _ k0_pay18))); iexact H3
    isplitl [H4]
    · iapply (of_eq (congrArg (lsumP c) (Memref.write_access_unit_zero_univ (Elt F) cc0_scoped3 (show ![0, 0] = fun _ => 0 by decide) (by decide) _ k0_pay19))); iexact H4
    isplitl [HW]; · iexists _; iexact HW
    isplitl [Hxr]; · iexact Hxr
    isplitl [Htr]; · iexact Htr
    isplitl [HXc0]; · iexists s0; iexact HXc0
    isplitl [HXc1]; · iexists s1; iexact HXc1
    isplitl [HXc2]; · iexists s2; iexact HXc2
    isplitl [HX3]; · iexact HX3
    isplitl [HTc0]; · iexists u0; iexact HTc0
    iexact HT1
  iapply (loop_run c XA TA 1#32 2#32 1#32 1#32 1#1 1#1) $$ [HI]
  · iexact HI
  iintro HI
  ihave HE := (of_eq (inv_end c XA TA)) $$ HI
  icases HE with ⟨H1, H2, H3, H4, ⟨%W', HW⟩, Hxr, Htr, HX0, HX1, HX2, HX3, HT0, HT1⟩
  sl_exec
  sl_step
  iapply Hk
  isplitl [H1]; · iexists _; iexact H1
  isplitl [H2]; · iexists _; iexact H2
  isplitl [H3]; · iexists _; iexact H3
  isplitl [H4]; · iexists _; iexact H4
  isplitl [HR]; · iexists _; iexact HR
  isplitl [HO]
  · iapply (of_eq (congrArg (outP c) (out_stored c XA TA f5 f6 (by decide) (by decide)))); iexact HO
  isplitl [HOc]; · iexact HOc
  isplitl [HW]; · iexists _; iexact HW
  isplitl [Hxr]; · iexact Hxr
  isplitl [Htr]; · iexact Htr
  isplitl [HX0]; · iexact HX0
  isplitl [HX1]; · iexact HX1
  isplitl [HX2]; · iexact HX2
  isplitl [HX3]; · iexact HX3
  isplitl [HT0]; · iexact HT0
  iexact HT1

end Body

end Cert.Proof.Stream

end
-- ==== Proof.Launch.lean ====
/-
  The launch: the body at the region's one point, between the host's transposition and its reshape.
-/
module

public import proofs.«01_k».proof.Proof.Body
public import proofs.«01_k».proof.Proof.Gen.Kernel.Frame
public import Idealize.ShloMosaic.Lib.Pipeline.Quiescent
public import Idealize.ShloMosaic.Lib.Pipeline.FrameSuffix

@[expose] public section

set_option maxRecDepth 16384

noncomputable section

namespace Cert.Proof.Stream

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ UU ℕ

/-! ## The body's own semaphores: the result's, the four logits slots', the two labels slots' -/

abbrev osem : Fin 7 → SemLoc sig := fun k =>
  match k with
  | 0 => .dma cc0_scoped5.sem
  | 1 => .dma (xcell 0).sem
  | 2 => .dma (xcell 1).sem
  | 3 => .dma (xcell 2).sem
  | 4 => .dma (xcell 3).sem
  | 5 => .dma (tcell 0).sem
  | 6 => .dma (tcell 1).sem
theorem ownSemFacts : Pipeline.OwnSemFacts cfg0.spec osem := by decide

theorem bigSep_seven (P : Fin 7 → sProp 𝕄) : bigSep Finset.univ P = iprop(P 0 ∗ P 1 ∗ P 2 ∗ P 3 ∗ P 4 ∗ P 5 ∗ P 6) :=
  bigSep_univ_eq_bigSepL [(0 : Fin 7), 1, 2, 3, 4, 5, 6] (by decide) (by decide) P
theorem bigSep_four (P : Fin 4 → sProp 𝕄) : bigSep Finset.univ P = iprop(P 0 ∗ P 1 ∗ P 2 ∗ P 3) :=
  bigSep_univ_eq_bigSepL [(0 : Fin 4), 1, 2, 3] (by decide) (by decide) P
theorem bigSep_two (P : Fin 2 → sProp 𝕄) : bigSep Finset.univ P = iprop(P 0 ∗ P 1) :=
  bigSep_univ_eq_bigSepL [(0 : Fin 2), 1] (by decide) (by decide) P

theorem ownSems_eq (c : Dev nD) : (Pipeline.ownSems0 (Ix := Unit) (Name := ℕ) (U := UU) (Lvl := ℕ) (Val := Elt F) (τ := τ) osem c : sProp 𝕄)
    = iprop(outCellP c ∗ xcellP c 0 ∗ xcellP c 1 ∗ xcellP c 2 ∗ xcellP c 3 ∗ tcellP c 0 ∗ tcellP c 1) := by
  unfold Pipeline.ownSems0; rw [bigSep_seven]

/-! ## The arrays cut into blocks, the buffers into slots -/

abbrev XB (b : Fin 32) : Finset S1000x32768.Idx := (Rect.unit (s := S1000x32768) (xblkOff b) S1000x1024.size (xblkOff_inb b)).set
abbrev TB (b : Fin 32) : Finset S32x1x1024.Idx := (Rect.unit (s := S32x1x1024) (tblkOff b) S1x1x1024.size (tblkOff_inb b)).set
abbrev XS (s : Fin 4) : Finset S4x1000x1024.Idx := (Rect.unit (s := S4x1000x1024) (xslotOff s) S1x1000x1024.size (xslotOff_inb s)).set
abbrev TS (s : Fin 2) : Finset S2x1x1x1024.Idx := (Rect.unit (s := S2x1x1x1024) (tslotOff s) S1x1x1x1024.size (tslotOff_inb s)).set

theorem xblk_set (b : Fin 32) : (xblk b).view.set = XB b := View.set_slice_whole _ _
theorem tblk_set (b : Fin 32) : (tblk b).view.set = TB b := View.set_slice_whole _ _
theorem xslot_set (s : Fin 4) : (xslot s).view.set = XS s := (View.set_reshape _ _).trans (View.set_slice_whole _ _)
theorem tslot_set (s : Fin 2) : (tslot s).view.set = TS s := (View.set_reshape _ _).trans (View.set_slice_whole _ _)

theorem mem_XB (b : Fin 32) (y : S1000x32768.Idx) : y ∈ XB b ↔ (y 1).val / 1024 = b.val := by
  rw [Rect.mem_set_unit]
  have h0 : (y 0).val < 1000 := (y 0).isLt
  constructor
  · intro H; have a1 : 1024 * b.val ≤ (y 1).val ∧ (y 1).val < 1024 * b.val + 1024 := H 1; omega
  · intro H a; fin_cases a
    · show 0 ≤ (y 0).val ∧ (y 0).val < 0 + 1000; omega
    · show 1024 * b.val ≤ (y 1).val ∧ (y 1).val < 1024 * b.val + 1024; omega
theorem mem_TB (b : Fin 32) (y : S32x1x1024.Idx) : y ∈ TB b ↔ (y 0).val = b.val := by
  rw [Rect.mem_set_unit]
  have h1 : (y 1).val < 1 := (y 1).isLt
  have h2 : (y 2).val < 1024 := (y 2).isLt
  constructor
  · intro H; have a0 : b.val ≤ (y 0).val ∧ (y 0).val < b.val + 1 := H 0; omega
  · intro H a; fin_cases a
    · show b.val ≤ (y 0).val ∧ (y 0).val < b.val + 1; omega
    · show 0 ≤ (y 1).val ∧ (y 1).val < 0 + 1; omega
    · show 0 ≤ (y 2).val ∧ (y 2).val < 0 + 1024; omega
theorem mem_XS (s : Fin 4) (y : S4x1000x1024.Idx) : y ∈ XS s ↔ (y 0).val = s.val := by
  rw [Rect.mem_set_unit]
  have h1 : (y 1).val < 1000 := (y 1).isLt
  have h2 : (y 2).val < 1024 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 1000; omega
    · show 0 ≤ (y 2).val ∧ (y 2).val < 0 + 1024; omega
theorem mem_TS (s : Fin 2) (y : S2x1x1x1024.Idx) : y ∈ TS s ↔ (y 0).val = s.val := by
  rw [Rect.mem_set_unit]
  have h1 : (y 1).val < 1 := (y 1).isLt
  have h2 : (y 2).val < 1 := (y 2).isLt
  have h3 : (y 3).val < 1024 := (y 3).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 1; omega
    · show 0 ≤ (y 2).val ∧ (y 2).val < 0 + 1; omega
    · show 0 ≤ (y 3).val ∧ (y 3).val < 0 + 1024; omega

/-- Pieces told apart by one number are disjoint, and cover once each index has one. -/
theorem pieces_disjoint {α ι : Type} [DecidableEq α] {S : ι → Finset α} {key : α → ℕ} {num : ι → ℕ} (hi : Function.Injective num)
    (h : ∀ i y, y ∈ S i ↔ key y = num i) : ∀ i j : ι, i ≠ j → Disjoint (S i) (S j) := fun i j hne =>
  Finset.disjoint_left.mpr fun y hy hy' => hne (hi (((h i y).mp hy).symm.trans ((h j y).mp hy')))
theorem pieces_cover {α : Type} [Fintype α] [DecidableEq α] {n : ℕ} {S : Fin n → Finset α} {key : α → ℕ} (h : ∀ i y, y ∈ S i ↔ key y = i.val)
    (hb : ∀ y, key y < n) : (Finset.univ : Finset (Fin n)).biUnion S = Finset.univ :=
  Finset.eq_univ_iff_forall.mpr fun y => Finset.mem_biUnion.mpr ⟨⟨key y, hb y⟩, Finset.mem_univ _, (h _ y).mpr rfl⟩

theorem XB_cover : (Finset.univ : Finset (Fin 32)).biUnion XB = Finset.univ := pieces_cover mem_XB fun y => by
  have : (y 1).val < 32768 := (y 1).isLt
  omega
theorem TB_cover : (Finset.univ : Finset (Fin 32)).biUnion TB = Finset.univ := pieces_cover mem_TB fun y => (y 0).isLt
theorem XS_cover : (Finset.univ : Finset (Fin 4)).biUnion XS = Finset.univ := pieces_cover mem_XS fun y => (y 0).isLt
theorem TS_cover : (Finset.univ : Finset (Fin 2)).biUnion TS = Finset.univ := pieces_cover mem_TS fun y => (y 0).isLt
theorem XS_disjoint : ∀ i j : Fin 4, i ≠ j → Disjoint (XS i) (XS j) := pieces_disjoint Fin.val_injective mem_XS
theorem TS_disjoint : ∀ i j : Fin 2, i ≠ j → Disjoint (TS i) (TS j) := pieces_disjoint Fin.val_injective mem_TS

section Cuts
variable (c : Dev nD) (XA : Buf (Elt F) (xM.view.loc (c : Thread nD τ))) (TA : Buf (Elt F) (tM.view.loc (c : Thread nD τ)))

theorem x_eq : (((c : Thread nD τ).loc main_v0) ↦{fullShare} XA : sProp 𝕄) = bigSep Finset.univ (xhomeP c XA) := by
  rw [Ring.pointsTo_blocks (ℓ := (c : Thread nD τ).loc main_v0) XB (pieces_disjoint Fin.val_injective mem_XB) XB_cover]
  exact bigSep_congr fun b _ => by rw [← xblk_set]; rfl
theorem t_eq : (((c : Thread nD τ).loc main_v1) ↦{fullShare} TA : sProp 𝕄) = bigSep Finset.univ (thomeP c TA) := by
  rw [Ring.pointsTo_blocks (ℓ := (c : Thread nD τ).loc main_v1) TB (pieces_disjoint Fin.val_injective mem_TB) TB_cover]
  exact bigSep_congr fun b _ => by rw [← tblk_set]; rfl

theorem xhomes_zero : bigSep Finset.univ (xhomeP c XA) = iprop(xhomeP c XA 0 ∗ xhomeP c XA 1 ∗ xhomeP c XA 2 ∗ bigSep (Ring.homeSet 3 0) (xhomeP c XA)) := by
  have e : (Finset.univ : Finset (Fin 32)) = insert 0 (insert 1 (insert 2 (Ring.homeSet (NB := 32) 3 0))) := by
    ext b; simp only [Finset.mem_univ, Finset.mem_insert, Ring.mem_homeSet, true_iff, Fin.ext_iff]; have := b.isLt; omega
  rw [e, bigSep_insert (by simp [Ring.mem_homeSet, Fin.ext_iff]), bigSep_insert (by simp [Ring.mem_homeSet, Fin.ext_iff]), bigSep_insert (by simp [Ring.mem_homeSet])]; rfl
theorem thomes_zero : bigSep Finset.univ (thomeP c TA) = iprop(thomeP c TA 0 ∗ bigSep (Ring.homeSet 1 0) (thomeP c TA)) := by
  have e : (Finset.univ : Finset (Fin 32)) = insert 0 (Ring.homeSet (NB := 32) 1 0) := by
    ext b; simp only [Finset.mem_univ, Finset.mem_insert, Ring.mem_homeSet, true_iff, Fin.ext_iff]; have := b.isLt; omega
  rw [e, bigSep_insert (by simp [Ring.mem_homeSet])]; rfl

/-- A buffer at anything. -/
abbrev anyP (b : Ref sig .tc) : sProp 𝕄 := iprop(∃ f : Buf (Elt F) ((c : Thread nD τ).loc b), ((c : Thread nD τ).loc b) ↦{fullShare} f)

theorem xslotP_eq (s : Fin 4) (f) : xslotP c s f = (((c : Thread nD τ).loc cc0_scoped6) ↦[XS s]{fullShare} f : sProp 𝕄) :=
  congrArg (fun S => (_ ↦[S]{fullShare} f : sProp 𝕄)) (xslot_set s)
theorem tslotP_eq (s : Fin 2) (f) : tslotP c s f = (((c : Thread nD τ).loc cc0_scoped8) ↦[TS s]{fullShare} f : sProp 𝕄) :=
  congrArg (fun S => (_ ↦[S]{fullShare} f : sProp 𝕄)) (tslot_set s)

theorem xbuf_split : anyP c cc0_scoped6 ⊢ (iprop((∃ f, xslotP c 0 f) ∗ (∃ f, xslotP c 1 f) ∗ (∃ f, xslotP c 2 f) ∗ ∃ f, xslotP c 3 f) : sProp 𝕄) := by
  iintro ⟨%f, H⟩
  ihave H2 := (of_eq ((Ring.pointsTo_blocks (Ix := Unit) (Name := ℕ) (U := UU) (Lvl := ℕ) (q := fullShare) (ℓ := (c : Thread nD τ).loc cc0_scoped6) XS XS_disjoint XS_cover f).trans (bigSep_four _))) $$ H
  icases H2 with ⟨H0, H1, H2, H3⟩
  isplitl [H0]; · iexists f; iapply (of_eq (xslotP_eq c 0 f).symm); iexact H0
  isplitl [H1]; · iexists f; iapply (of_eq (xslotP_eq c 1 f).symm); iexact H1
  isplitl [H2]; · iexists f; iapply (of_eq (xslotP_eq c 2 f).symm); iexact H2
  iexists f; iapply (of_eq (xslotP_eq c 3 f).symm); iexact H3
theorem xbuf_join : iprop((∃ f, xslotP c 0 f) ∗ (∃ f, xslotP c 1 f) ∗ (∃ f, xslotP c 2 f) ∗ ∃ f, xslotP c 3 f) ⊢ (anyP c cc0_scoped6 : sProp 𝕄) := by
  iintro ⟨⟨%f0, H0⟩, ⟨%f1, H1⟩, ⟨%f2, H2⟩, ⟨%f3, H3⟩⟩
  iapply (Ring.pointsTo_blocks_join_exists (ℓ := (c : Thread nD τ).loc cc0_scoped6) XS XS_disjoint XS_cover f0)
  irw [bigSep_four]
  isplitl [H0]; · iexists f0; iapply (of_eq (xslotP_eq c 0 f0)); iexact H0
  isplitl [H1]; · iexists f1; iapply (of_eq (xslotP_eq c 1 f1)); iexact H1
  isplitl [H2]; · iexists f2; iapply (of_eq (xslotP_eq c 2 f2)); iexact H2
  iexists f3; iapply (of_eq (xslotP_eq c 3 f3)); iexact H3
theorem tbuf_split : anyP c cc0_scoped8 ⊢ (iprop((∃ f, tslotP c 0 f) ∗ ∃ f, tslotP c 1 f) : sProp 𝕄) := by
  iintro ⟨%f, H⟩
  ihave H2 := (of_eq ((Ring.pointsTo_blocks (Ix := Unit) (Name := ℕ) (U := UU) (Lvl := ℕ) (q := fullShare) (ℓ := (c : Thread nD τ).loc cc0_scoped8) TS TS_disjoint TS_cover f).trans (bigSep_two _))) $$ H
  icases H2 with ⟨H0, H1⟩
  isplitl [H0]; · iexists f; iapply (of_eq (tslotP_eq c 0 f).symm); iexact H0
  iexists f; iapply (of_eq (tslotP_eq c 1 f).symm); iexact H1
theorem tbuf_join : iprop((∃ f, tslotP c 0 f) ∗ ∃ f, tslotP c 1 f) ⊢ (anyP c cc0_scoped8 : sProp 𝕄) := by
  iintro ⟨⟨%f0, H0⟩, ⟨%f1, H1⟩⟩
  iapply (Ring.pointsTo_blocks_join_exists (ℓ := (c : Thread nD τ).loc cc0_scoped8) TS TS_disjoint TS_cover f0)
  irw [bigSep_two]
  isplitl [H0]; · iexists f0; iapply (of_eq (tslotP_eq c 0 f0)); iexact H0
  iexists f1; iapply (of_eq (tslotP_eq c 1 f1)); iexact H1

/-- A whole buffer held through its memref is the buffer held. -/
theorem held_whole (b : Ref sig .tc) (f : Buf (Elt F) ((c : Thread nD τ).loc b)) :
    (((c : Thread nD τ).loc b) ↦[(View.whole b).set]{fullShare} f : sProp 𝕄) = (((c : Thread nD τ).loc b) ↦{fullShare} f) := by
  rw [View.set_whole]
theorem any_whole (b : Ref sig .tc) :
    (iprop(∃ f : Buf (Elt F) ((c : Thread nD τ).loc b), ((c : Thread nD τ).loc b) ↦[(View.whole b).set]{fullShare} f) : sProp 𝕄) = anyP c b := by
  simp only [held_whole]

end Cuts

/-! ## The region's invariant -/

variable (m : (ℓ : Loc nD τ sig) → Buf (Elt F) ℓ) (ρ : Dev nD → PrngReg)

/-- The arrays the body reads, at the region's entry. -/
abbrev XV (c : Dev nD) : Buf (Elt F) (xM.view.loc (c : Thread nD τ)) := V m c main_v0
abbrev TV (c : Dev nD) : Buf (Elt F) (tM.view.loc (c : Thread nD τ)) := V m c main_v1
/-- What the region leaves in its result. -/
abbrev res (c : Dev nD) : Buf (Elt F) (oM.view.loc (c : Thread nD τ)) := outOf c (XV m c) (TV m c)

/-- The region's invariant, its result held as `O` says. -/
def ΦO (c : Dev nD) (O : sProp 𝕄) : sProp 𝕄 :=
  iprop((∃ f, cntP c f) ∗ (∃ f, asumP c f) ∗ (∃ f, csumP c f) ∗ (∃ f, lsumP c f) ∗ (∃ f, resP c f) ∗ O ∗ outCellP c
    ∗ bigSep Finset.univ (xhomeP c (XV m c)) ∗ bigSep Finset.univ (thomeP c (TV m c))
    ∗ ((∃ f, xslotP c 0 f) ∗ xcellP c 0) ∗ ((∃ f, xslotP c 1 f) ∗ xcellP c 1) ∗ ((∃ f, xslotP c 2 f) ∗ xcellP c 2) ∗ ((∃ f, xslotP c 3 f) ∗ xcellP c 3)
    ∗ ((∃ f, tslotP c 0 f) ∗ tcellP c 0) ∗ ((∃ f, tslotP c 1 f) ∗ tcellP c 1))
def Φ (c : Dev nD) (t : ℕ) : sProp 𝕄 := ΦO m c (if t = 0 then iprop(∃ f, outP c f) else outP c (res m c))
theorem Φ_zero (c : Dev nD) : Φ m c 0 = ΦO m c iprop(∃ f, outP c f) := rfl
theorem Φ_one (c : Dev nD) : Φ m c 1 = ΦO m c (outP c (res m c)) := rfl

def dats (_ : Fin 1) (c : Dev nD) : Dat τ (Elt F) Unit ℕ UU ℕ cfg0 c where
  A w := w.elim0
  after w _ := w.elim0
  Φ t := Φ m c t.val
  q _ := fullShare
  owed _ := 0

theorem defs_tc : (defs₀ (F := F)) .tc cfg0.body = fun a => bodyAt0 a.1 := rfl
theorem prog_eq : (defs₀ (F := F)) .tc cfg0.body (cfg0.bodyArgs t0_0 (cfg0.slots t0_0)) = bodyAt0 t0_0 :=
  (congrFun defs_tc _).trans rfl

theorem bigSep_W0 (P : Fin cfg0.W → sProp 𝕄) : bigSep Finset.univ P = iprop(emp) := bigSep_empty

set_option backward.isDefEq.respectTransparency.types false in
theorem body_obligation (c : Dev nD) : BodyObligation (dats (F := F) m 0 c) (defs₀ (F := F)) 𝒱₀ () Set.univ := fun t => by
  obtain rfl : t = t0_0 := fin_N0 t
  rw [bigSep_W0, bigSep_W0]
  rw [show (dats m 0 c).Φ t0_0.castSucc = ΦO m c iprop(∃ f, outP c f) from rfl, show (dats m 0 c).Φ t0_0.succ = ΦO m c (outP c (res m c)) from rfl]
  unfold Dat.owesAt Pipeline.owesWithin
  rw [show (dats m 0 c).owed t0_0.castSucc = 0 from rfl, show (dats m 0 c).owed t0_0.succ = 0 from rfl]
  unfold ΦO
  iintro ⟨⟨H1, H2, H3, H4, HR, HO, HOc, Hx, Ht, HX0, HX1, HX2, HX3, HT0, HT1⟩, ⟨%W, -, HW⟩, -⟩
  ihave Hx' := (of_eq (xhomes_zero c (XV m c))) $$ Hx
  ihave Ht' := (of_eq (thomes_zero c (TV m c))) $$ Ht
  sl_rw [prog_eq]
  iapply (bodyRun c (XV m c) (TV m c) W)
  isplitl [H1 H2 H3 H4 HR HO HOc Hx' Ht' HX0 HX1 HX2 HX3 HT0 HT1 HW]
  · isplitl [H1]; · iexact H1
    isplitl [H2]; · iexact H2
    isplitl [H3]; · iexact H3
    isplitl [H4]; · iexact H4
    isplitl [HR]; · iexact HR
    isplitl [HO]; · iexact HO
    isplitl [HOc]; · iexact HOc
    isplitl [HW]; · iexact HW
    isplitl [Hx']; · iexact Hx'
    isplitl [Ht']; · iexact Ht'
    isplitl [HX0]; · iexact HX0
    isplitl [HX1]; · iexact HX1
    isplitl [HX2]; · iexact HX2
    isplitl [HX3]; · iexact HX3
    isplitl [HT0]; · iexact HT0
    iexact HT1
  · iintro ⟨H1, H2, H3, H4, HR, HO, HOc, ⟨%W', HW⟩, Hx, Ht, HX0, HX1, HX2, HX3, HT0, HT1⟩
    isplitl [H1 H2 H3 H4 HR HO HOc Hx Ht HX0 HX1 HX2 HX3 HT0 HT1]
    · isplitl [H1]; · iexact H1
      isplitl [H2]; · iexact H2
      isplitl [H3]; · iexact H3
      isplitl [H4]; · iexact H4
      isplitl [HR]; · iexact HR
      isplitl [HO]; · iexact HO
      isplitl [HOc]; · iexact HOc
      isplitl [Hx]; · iexact Hx
      isplitl [Ht]; · iexact Ht
      isplitl [HX0]; · iexact HX0
      isplitl [HX1]; · iexact HX1
      isplitl [HX2]; · iexact HX2
      isplitl [HX3]; · iexact HX3
      isplitl [HT0]; · iexact HT0
      iexact HT1
    isplitl [HW]
    · iexists W'; isplitr; · ipureintro; exact fun _ _ => Or.inl trivial
      iexact HW
    iempintro

/-! ## The run -/

/-- The host's buffers after the region: the result at what the body left, every other as the region found it. -/
def W0 (c : Dev nD) : Valuation τ sig (Elt F) := Function.update (V0 m c) (Proc.devRef .tc main_v2) (res m c)
theorem W0_res (c : Dev nD) : W0 m c (Proc.devRef .tc main_v2) = res m c := Function.update_self _ _ _
theorem W0_ne (c : Dev nD) (b : Ref sig .tc) (h : b ≠ main_v2) : W0 m c (Proc.devRef .tc b) = V m c b :=
  Function.update_of_ne (StableHlo.devRef_ne_of_ne h) _ _
/-- And after the host's last operation. -/
abbrev W1 (c : Dev nD) : Valuation τ sig (Elt F) := StableHlo.after (List.flatten [hostOps1]) (W0 m c)
/-- The kernel's result. -/
abbrev final (c : Dev nD) : Buf (Elt F) ((c : Thread nD τ).loc main_v3) := W1 m c (Proc.devRef .tc main_v3)

theorem W1_ne (c : Dev nD) (b : Ref sig .tc) (h : b ≠ main_v3) : W1 m c (Proc.devRef .tc b) = W0 m c (Proc.devRef .tc b) :=
  StableHlo.after_of_forall_not_mem (b := Proc.devRef .tc b) _ _ (List.forall_iff_forall_mem.mp (by
    simp only [hostOps1, List.flatten_cons, List.flatten_nil, List.append_nil, List.Forall, StableHlo.reshape_writes, Finset.mem_singleton]
    exact StableHlo.devRef_ne_of_ne h))
theorem W1_arg0 (c : Dev nD) : W1 m c (Proc.devRef .tc main_arg0) = m ((c : Thread nD τ).loc main_arg0) :=
  ((W1_ne m c main_arg0 (by decide)).trans (W0_ne m c main_arg0 (by decide))).trans (V_main_arg0 m c)
theorem W1_arg1 (c : Dev nD) : W1 m c (Proc.devRef .tc main_arg1) = m ((c : Thread nD τ).loc main_arg1) :=
  ((W1_ne m c main_arg1 (by decide)).trans (W0_ne m c main_arg1 (by decide))).trans (V_main_arg1 m c)

abbrev EP : Emb (URounds (GSem nD τ sig) Unit) (MT nD τ sig Unit (Elt F) ℕ UU ℕ) := embL
def u₀ : UU := (initOf (Pipeline.cells cfgs cellOf_inj) (Pipeline.launchToks cfgs cellOf_inj), 1)

/-- What goes into the region: its semaphores, the two arrays it reads, the one it writes. -/
def into (c : Dev nD) : sProp 𝕄 := iprop(Pipeline.ownSems0 osem c ∗ (((c : Thread nD τ).loc main_v0) ↦{fullShare} V m c main_v0)
  ∗ (((c : Thread nD τ).loc main_v1) ↦{fullShare} V m c main_v1) ∗ (((c : Thread nD τ).loc main_v2) ↦{fullShare} V m c main_v2))
/-- What bypasses it. -/
def past (c : Dev nD) : sProp 𝕄 := iprop((((c : Thread nD τ).loc main_arg0) ↦{fullShare} V m c main_arg0)
  ∗ (((c : Thread nD τ).loc main_arg1) ↦{fullShare} V m c main_arg1) ∗ (((c : Thread nD τ).loc main_v3) ↦{fullShare} V m c main_v3))
/-- What comes out. -/
def out (c : Dev nD) : sProp 𝕄 := iprop((((c : Thread nD τ).loc main_v0) ↦{fullShare} V m c main_v0)
  ∗ (((c : Thread nD τ).loc main_v1) ↦{fullShare} V m c main_v1) ∗ (((c : Thread nD τ).loc main_v2) ↦{fullShare} res m c))
/-- What is read at the end. -/
def ends (c : Dev nD) : sProp 𝕄 := iprop((((c : Thread nD τ).loc main_arg0) ↦{fullShare} m ((c : Thread nD τ).loc main_arg0))
  ∗ (((c : Thread nD τ).loc main_arg1) ↦{fullShare} m ((c : Thread nD τ).loc main_arg1)) ∗ (((c : Thread nD τ).loc main_v3) ↦{fullShare} final m c))

/-- The end state. -/
def Ends (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
    ∧ s.mem ((c : Thread nD τ).loc main_v3) = final m c

set_option maxHeartbeats 800000 in
theorem hmain_run : Pipeline.HMainK (Ix := Unit) (Name := ℕ) (U := UU) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The whole of the host's buffers, as the library lists them. -/
theorem rest_eq (c : Dev nD) (v : (b : Ref sig .tc) → Buf (Elt F) ((c : Thread nD τ).loc b)) :
    (Pipeline.unscopedRestP (Ix := Unit) (Name := ℕ) (U := UU) (Lvl := ℕ) Pipeline.Prefetch.none (cfg0.spec) c v : sProp 𝕄)
      = iprop((((c : Thread nD τ).loc main_arg0) ↦{fullShare} v main_arg0) ∗ (((c : Thread nD τ).loc main_arg1) ↦{fullShare} v main_arg1)
        ∗ (((c : Thread nD τ).loc main_v0) ↦{fullShare} v main_v0) ∗ (((c : Thread nD τ).loc main_v1) ↦{fullShare} v main_v1)
        ∗ (((c : Thread nD τ).loc main_v2) ↦{fullShare} v main_v2) ∗ (((c : Thread nD τ).loc main_v3) ↦{fullShare} v main_v3)) := by
  rw [Pipeline.unscopedRestP_none]; exact unscopedRest0_eq c v

theorem entry_in (c : Dev nD) : iprop(into m c ∗ Pipeline.scopedRest (Ix := Unit) (Name := ℕ) (U := UU) (Lvl := ℕ) (Val := Elt F) (cfg0.spec) c) ⊢ Φ m c 0 := by
  rw [scopedRest0_eq, Φ_zero]
  unfold into ΦO
  rw [ownSems_eq, x_eq, t_eq]
  iintro ⟨⟨⟨HOc, Hx0, Hx1, Hx2, Hx3, Ht0, Ht1⟩, Hx, Ht, HO⟩, H1, H2, H3, H4, HR, HX, HT⟩
  ihave HXs := (xbuf_split c) $$ HX
  icases HXs with ⟨HX0, HX1, HX2, HX3⟩
  ihave HTs := (tbuf_split c) $$ HT
  icases HTs with ⟨HT0, HT1⟩
  isplitl [H1]; · iapply (of_eq (any_whole c cc0_scoped0).symm); iexact H1
  isplitl [H2]; · iapply (of_eq (any_whole c cc0_scoped1).symm); iexact H2
  isplitl [H3]; · iapply (of_eq (any_whole c cc0_scoped2).symm); iexact H3
  isplitl [H4]; · iapply (of_eq (any_whole c cc0_scoped3).symm); iexact H4
  isplitl [HR]; · iapply (of_eq (any_whole c cc0_scoped4).symm); iexact HR
  isplitl [HO]; · iexists V m c main_v2; iapply (of_eq (held_whole c main_v2 _).symm); iexact HO
  isplitl [HOc]; · iexact HOc
  isplitl [Hx]; · iexact Hx
  isplitl [Ht]; · iexact Ht
  isplitl [HX0 Hx0]
  · isplitl [HX0]; · iexact HX0
    iexact Hx0
  isplitl [HX1 Hx1]
  · isplitl [HX1]; · iexact HX1
    iexact Hx1
  isplitl [HX2 Hx2]
  · isplitl [HX2]; · iexact HX2
    iexact Hx2
  isplitl [HX3 Hx3]
  · isplitl [HX3]; · iexact HX3
    iexact Hx3
  isplitl [HT0 Ht0]
  · isplitl [HT0]; · iexact HT0
    iexact Ht0
  isplitl [HT1]; · iexact HT1
  iexact Ht1

theorem exit_out (c : Dev nD) : Φ m c 1 ⊢ iprop(out m c ∗ Pipeline.ownSems0 osem c ∗ Pipeline.scopedRest (Ix := Unit) (Name := ℕ) (U := UU) (Lvl := ℕ) (Val := Elt F) (cfg0.spec) c) := by
  rw [scopedRest0_eq, Φ_one]
  unfold out ΦO
  rw [ownSems_eq, x_eq, t_eq]
  iintro ⟨H1, H2, H3, H4, HR, HO, HOc, Hx, Ht, ⟨HX0, Hx0⟩, ⟨HX1, Hx1⟩, ⟨HX2, Hx2⟩, ⟨HX3, Hx3⟩, ⟨HT0, Ht0⟩, ⟨HT1, Ht1⟩⟩
  isplitl [HO Hx Ht]
  · isplitl [Hx]; · iexact Hx
    isplitl [Ht]; · iexact Ht
    iapply (of_eq (held_whole c main_v2 _)); iexact HO
  isplitl [HOc Hx0 Hx1 Hx2 Hx3 Ht0 Ht1]
  · isplitl [HOc]; · iexact HOc
    isplitl [Hx0]; · iexact Hx0
    isplitl [Hx1]; · iexact Hx1
    isplitl [Hx2]; · iexact Hx2
    isplitl [Hx3]; · iexact Hx3
    isplitl [Ht0]; · iexact Ht0
    iexact Ht1
  isplitl [H1]; · iapply (of_eq (any_whole c cc0_scoped0)); iexact H1
  isplitl [H2]; · iapply (of_eq (any_whole c cc0_scoped1)); iexact H2
  isplitl [H3]; · iapply (of_eq (any_whole c cc0_scoped2)); iexact H3
  isplitl [H4]; · iapply (of_eq (any_whole c cc0_scoped3)); iexact H4
  isplitl [HR]; · iapply (of_eq (any_whole c cc0_scoped4)); iexact HR
  isplitl [HX0 HX1 HX2 HX3]
  · iapply (xbuf_join c)
    isplitl [HX0]; · iexact HX0
    isplitl [HX1]; · iexact HX1
    isplitl [HX2]; · iexact HX2
    iexact HX3
  iapply (tbuf_join c)
  isplitl [HT0]; · iexact HT0
  iexact HT1

/-- The host's last operation, over what came out of the region and what bypassed it. -/
theorem tail_run (c : Dev nD) (K : PUnit → sProp 𝕄) :
    iprop((iprop(boundary (c : Thread nD τ) ∗ ends m c) -∗ K ⟨⟩) ∗ boundary (c : Thread nD τ) ∗ out m c ∗ past m c)
      ⊢ wp frame (wpE (Pipeline.defs (pcfgs (F := F)) defs₀) (Variants.lift 𝒱₀) (c : Thread nD τ) none) Set.univ (Pipeline.chain ([hostOps1].map StableHlo.seq)) K := by
  have hempty : ∀ Wv : Valuation τ sig (Elt F), (Pipeline.arrBufs (Ix := Unit) (Name := ℕ) (U := UU) (Lvl := ℕ) (cfg0.spec) c (fun b => Wv (Proc.devRef .tc b)) : sProp 𝕄) = iprop(emp) := fun Wv => by
    unfold Pipeline.arrBufs; rw [show (Finset.univ.image (Pipeline.arrRef (cfg0.spec))) = ∅ from by decide]; exact bigSep_empty
  have hheld : ∀ Wv : Valuation τ sig (Elt F), (StableHlo.held (c : Thread nD τ) (Pipeline.tailRefs sig Pipeline.Prefetch.none (cfg0.spec)) Wv : sProp 𝕄)
      = iprop(emp ∗ (((c : Thread nD τ).loc main_arg0) ↦{fullShare} Wv (Proc.devRef .tc main_arg0)) ∗ (((c : Thread nD τ).loc main_arg1) ↦{fullShare} Wv (Proc.devRef .tc main_arg1))
        ∗ (((c : Thread nD τ).loc main_v0) ↦{fullShare} Wv (Proc.devRef .tc main_v0)) ∗ (((c : Thread nD τ).loc main_v1) ↦{fullShare} Wv (Proc.devRef .tc main_v1))
        ∗ (((c : Thread nD τ).loc main_v2) ↦{fullShare} Wv (Proc.devRef .tc main_v2)) ∗ (((c : Thread nD τ).loc main_v3) ↦{fullShare} Wv (Proc.devRef .tc main_v3))) := fun Wv => by
    rw [Pipeline.held_tailRefs_bufs, hempty, rest_eq]
  iintro ⟨Hk, Hb, Ho, Hp⟩
  rw [← List.append_nil ([hostOps1].map StableHlo.seq)]
  ihave Hh := (show iprop(boundary (c : Thread nD τ) ∗ out m c ∗ past m c)
      ⊢ iprop(boundary (c : Thread nD τ) ∗ (StableHlo.held (c : Thread nD τ) (Pipeline.tailRefs sig Pipeline.Prefetch.none (cfg0.spec)) (W0 m c) : sProp 𝕄)) from by
    rw [hheld, W0_res, W0_ne m c main_arg0 (by decide), W0_ne m c main_arg1 (by decide), W0_ne m c main_v0 (by decide), W0_ne m c main_v1 (by decide), W0_ne m c main_v3 (by decide)]
    unfold out past
    iintro ⟨Hb, ⟨Hx, Ht, HO⟩, H0, H1, H3⟩
    isplitl [Hb]; · iexact Hb
    isplitr; · iempintro
    isplitl [H0]; · iexact H0
    isplitl [H1]; · iexact H1
    isplitl [Hx]; · iexact Hx
    isplitl [Ht]; · iexact Ht
    isplitl [HO]; · iexact HO
    iexact H3) $$ [Hb Ho Hp]
  · isplitl [Hb]; · iexact Hb
    isplitl [Ho]; · iexact Ho
    iexact Hp
  iapply (Pipeline.wp_seqs_then (pcfgs (F := F)) defs₀ 𝒱₀ c (Pipeline.tailRefs sig Pipeline.Prefetch.none (cfg0.spec)) [] [hostOps1] sfx_sub sfx_fresh (W0 m c)) $$ Hh
  have e0 : StableHlo.after (List.flatten [hostOps1]) (W0 m c) (Proc.devRef .tc main_arg0) = _ := W1_arg0 m c
  have e1 : StableHlo.after (List.flatten [hostOps1]) (W0 m c) (Proc.devRef .tc main_arg1) = _ := W1_arg1 m c
  rw [Pipeline.chain_nil, wp_pure, hheld, e0, e1]
  iintro ⟨Hb, -, H0, H1, -, -, -, H3⟩
  imodintro
  iapply Hk
  isplitl [Hb]; · iexact Hb
  unfold ends
  isplitl [H0]; · iexact H0
  isplitl [H1]; · iexact H1
  iexact H3

set_option backward.isDefEq.respectTransparency.types false in
/-- From any memory with zero counters every weakly fair execution of @main terminates, the arguments unchanged, the
    result at its computed contents, every semaphore counter at zero. -/
theorem run_main : θ_run defs (onTc (τ := τ) (main (F := F))) ⟨m, fun _ => 0, ρ⟩ (fun r => (∀ c, Ends m c r.2) ∧ r.2.sem = fun _ => 0) :=
  Pipeline.θ_run_region_pf_tail'_quiescent (fun p => (cfgs p).toPCfg (Val := Elt F)) (fun p => (cfgs p).toPCfg_adm) (dats m) () launch0.cellOf_inj (0 : Fin 1) launch0.win.to₀ (osem := osem) ownSemFacts
    (Pipeline.PreFacts.none _) EP defs₀ 𝒱₀ m ρ main (fun _ => Pipeline.chain ([hostOps1].map StableHlo.seq))
    (hbody := fun c => (body_obligation m c).loose) launch0.block_pos launch0.arr_whole launch0.stage_whole
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := V m) (hmain := hmain_run m)
    (hsplit := fun c => by
      unfold Dat.arrays
      rw [show (Finset.univ : Finset (Fin (Pipeline.pin (fun p => (cfgs p).toPCfg (Val := Elt F)) (fun p => (cfgs p).toPCfg_adm) 0).W)) = ∅ from Finset.univ_eq_empty (α := Fin 0), bigSep_empty]
      iintro -
      iempintro)
    (hpf := fun _ k => k.elim0)
    (X := into m) (Y := out m) (Z := past m) (Y' := fun _ => iprop(emp)) (Z' := ends m)
    (hX := fun c => by
      rw [show (((cfgs 0).toPCfg (Val := Elt F)).pre) = Pipeline.Prefetch.none from rfl, rest_eq]
      unfold into past
      iintro ⟨⟨H0, H1, Hx, Ht, HO, H3⟩, HS, -, -, -⟩; imodintro
      isplitl [HS Hx Ht HO]
      · isplitl [HS]; · iexact HS
        isplitl [Hx]; · iexact Hx
        isplitl [Ht]; · iexact Ht
        iexact HO
      isplitl [H0]; · iexact H0
      isplitl [H1]; · iexact H1
      iexact H3)
    (hin := fun c => by
      refine .trans ?_ (entry_in m c)
      iintro ⟨HX, -, HR⟩
      isplitl [HX]; · iexact HX
      iexact HR)
    (hout := fun c => by
      rw [show (dats m 0 c).Φ (Fin.last cfg0.N) = Φ m c 1 from rfl]
      exact exit_out m c)
    (htail := fun c K => by
      refine .trans ?_ (tail_run m c K)
      iintro ⟨Hk, Hb, Ha, Ho, Hp⟩
      isplitl [Hk Ha]
      · iintro ⟨Hb, He⟩
        iapply Hk
        isplitl [Hb]; · iexact Hb
        isplitl [Ha]; · iexact Ha
        isplitr; · iempintro
        iexact He
      isplitl [Hb]; · iexact Hb
      isplitl [Ho]; · iexact Ho
      iexact Hp)
    (QY := Ends m)
    (hY := fun c s' => by
      unfold ends
      iintro ⟨-, ⟨H0, H1, H3⟩, HSI⟩
      icombine HSI H0 gives %h0
      icombine HSI H1 gives %h1
      icombine HSI H3 gives %h3
      imodintro
      isplitr; · ipureintro; exact ⟨Buf.eq_of_forall_mem_univ h0, Buf.eq_of_forall_mem_univ h1, Buf.eq_of_forall_mem_univ h3⟩
      iexact HSI)
    (hQ := fun _ hh hz => ⟨fun c => (hh c).2.2, hz⟩)

end Cert.Proof.Stream

end
-- ==== Proof.RefTerm.lean ====
module

public import proofs.«01_k».proof.Proof.Gen.ReferenceIdeal
public import Idealize.ShloMosaic.Lib.Claim
public import Idealize.ShloMosaic.Lib.StableHlo.RunRead

@[expose] public section

/-! # What the reference program computes, as a term of its two arguments

The reference's operations composed: the softmax of the rows, the greatest entry and the first place it is at, one bin's
weighted gap, and the row losses summed.  `run` says the program ends with its result buffer at that term. -/

set_option maxRecDepth 16384

noncomputable section

namespace Cert.Proof.Ref

open Cert.ReferenceIdeal Cert.ReferenceIdeal.Gen Idealize.ShloMosaic Idealize.ShloMosaic.TcCoe Idealize.SL.Sem

variable {F : FTy → Type} [FloatOps F]

/-- A number at every row. -/
abbrev rows (w : BitVec 32) : FVec F S32768 .f32 := broadcastInDim S32768 ![] bcast_S_S32768 (constant S_ .f32 w)

/-- A value per row, at every entry of the row. -/
abbrev spread (v : FVec F S32768 .f32) : FVec F S32768x1000 .f32 :=
  broadcastInDim S32768x1000 ![0, 1] bcast_S32768x1_S32768x1000_0_1 (broadcastInDim S32768x1 ![0] bcast_S32768_S32768x1_0 v)

/-- The greatest entry of each row. -/
abbrev rowMax (x : FVec F S32768x1000 .f32) : FVec F S32768 .f32 :=
  Host.reduce FloatOps.maximumf x (constant S_ .f32 0xFF800000#32) reducesTo_S32768x1000_S32768_d1 h_S_

/-- The sum of each row. -/
abbrev rowSum (x : FVec F S32768x1000 .f32) : FVec F S32768 .f32 :=
  Host.reduceAdd x (constant S_ .f32 0x00000000#32) reducesTo_S32768x1000_S32768_d1 h_S_

/-- The sum over the rows. -/
abbrev total (v : FVec F S32768 .f32) : FVec F S_ .f32 :=
  Host.reduceAdd v (constant S_ .f32 0x00000000#32) reducesTo_S32768_S_d0 h_S_

/-- Each entry less the greatest of its row. -/
def shifted (x : FVec F S32768x1000 .f32) : FVec F S32768x1000 .f32 := subf x (spread (maximumf (rows 0xFF800000#32) (rowMax x)))

/-- The softmax of each row. -/
def soft (x : FVec F S32768x1000 .f32) : FVec F S32768x1000 .f32 := Host.divf (Host.exp (shifted x)) (spread (rowSum (Host.exp (shifted x))))

/-- The greatest softmax value of each row. -/
def top (x : FVec F S32768x1000 .f32) : FVec F S32768 .f32 := rowMax (soft x)

/-- Of each row its greatest value and the place of that, the first if it is at several. -/
@[irreducible] def pairs (p : FVec F S32768x1000 .f32) : S32768.Idx → F .f32 × BitVec 32 :=
  Host.argReduce reducer_argmax_f32_i32 p (iotaInDim S32768x1000 32 1) (constant S_ .f32 0xFF800000#32) (constantI S_ 32 0#32)
    reducesTo_S32768x1000_S32768_d1 h_S_

theorem pairs_eq (p : FVec F S32768x1000 .f32) : pairs p =
    Host.argReduce reducer_argmax_f32_i32 p (iotaInDim S32768x1000 32 1) (constant S_ .f32 0xFF800000#32) (constantI S_ 32 0#32)
      reducesTo_S32768x1000_S32768_d1 h_S_ := by
  unfold pairs
  rfl

/-- The place alone. -/
def place (p : FVec F S32768x1000 .f32) : IVec S32768 32 := fun j => (pairs p j).2

theorem place_eq (p : FVec F S32768x1000 .f32) : place p = fun j => (pairs p j).2 := by unfold place; rfl

/-- The labels as a column. -/
def column (t : IVec S32768 32) : IVec S32768x1 32 := shapeCast S32768x1 t shapeCasts_S32768_S32768x1

/-- Whether each row's prediction is its label, as a number. -/
def right (x : FVec F S32768x1000 .f32) (t : IVec S32768 32) : FVec F S32768 .f32 :=
  uitofp .f32 (cmpi .eq (place (soft x)) (shapeCast S32768 (column t) shapeCasts_S32768x1_S32768))

/-- Whether each row's confidence is in a bin, as a number. -/
def within (lo hi : BitVec 32) (q : FVec F S32768 .f32) : FVec F S32768 .f32 :=
  uitofp .f32 (andi (cmpf .ogt q (rows lo)) (cmpf .ole q (rows hi)))

/-- One bin's weighted gap from its three sums. -/
def weigh (cnt csum asum : FVec F S_ .f32) : FVec F S_ .f32 :=
  select (cmpf .ogt (Host.divf cnt (constant S_ .f32 0x47000000#32)) (constant S_ .f32 0x00000000#32))
    (mulf (Host.absf (subf (Host.divf csum (maximumf cnt (constant S_ .f32 0x3F800000#32))) (Host.divf asum (maximumf cnt (constant S_ .f32 0x3F800000#32)))))
      (Host.divf cnt (constant S_ .f32 0x47000000#32))) (constant S_ .f32 0x00000000#32)

/-- One bin's weighted gap. -/
def bin (lo hi : BitVec 32) (q a : FVec F S32768 .f32) : FVec F S1 .f32 :=
  broadcastInDim S1 ![] bcast_S_S1
    (weigh (total (within lo hi q)) (total (mulf q (within lo hi q))) (total (mulf a (within lo hi q))))

/-- The calibration error: the five bins, added up. -/
def ece (q a : FVec F S32768 .f32) : FVec F S1 .f32 :=
  addf (addf (addf (addf (addf (broadcastInDim S1 ![] bcast_S_S1 (constant S_ .f32 0x00000000#32)) (bin 0x00000000#32 0x3E4CCCCD#32 q a))
    (bin 0x3E4CCCCD#32 0x3ECCCCCD#32 q a)) (bin 0x3ECCCCCD#32 0x3F19999A#32 q a)) (bin 0x3F19999A#32 0x3F4CCCCD#32 q a))
    (bin 0x3F4CCCCD#32 0x3F800000#32 q a)

/-- The log of the softmax of each row. -/
def logSoft (x : FVec F S32768x1000 .f32) : FVec F S32768x1000 .f32 :=
  subf (shifted x) (broadcastInDim S32768x1000 ![0, 1] bcast_S32768x1_S32768x1000_0_1
    (Host.log (broadcastInDim S32768x1 ![0] bcast_S32768_S32768x1_0 (rowSum (Host.exp (shifted x))))))

/-- The labels with a negative one counted from the end, as the gather's places. -/
def places (c : IVec S32768x1 32) : IVec S32768x1x1 32 :=
  shapeCast S32768x1x1 (select (cmpi .slt c (broadcastInDim S32768x1 ![] bcast_S_S32768x1 (constantI S_ 32 0#32)))
    (addi c (broadcastInDim S32768x1 ![] bcast_S_S32768x1 (constantI S_ 32 1000#32))) c) shapeCasts_S32768x1_S32768x1x1

/-- Whether each place is in the row. -/
def inRow (i : IVec S32768x1x1 32) : IVec S32768x1 1 :=
  Host.reduce IntOp.andi
    (andi (cmpi .sge i (broadcastInDim S32768x1x1 ![] bcast_S_S32768x1x1 (constantI S_ 32 0#32)))
      (cmpi .sle i (broadcastInDim S32768x1x1 ![0, 1, 2] bcast_S1x1x1_S32768x1x1_0_1_2
        (broadcastInDim S1x1x1 ![2] bcast_S1_S1x1x1_2 (constantI S1 32 999#32)))))
    (constantI S_ 1 1#1) reducesTo_S32768x1x1_S32768x1_d2 h_S_

/-- The value of each row at its label. -/
def taken (v : FVec F S32768x1000 .f32) (c : IVec S32768x1 32) : FVec F S32768x1 .f32 :=
  select (inRow (places c)) (Host.gather gather_S32768x1000_S32768x1x1_S32768x1_n_1_0_0_1_2_11 v (places c))
    (broadcastInDim S32768x1 ![] bcast_S_S32768x1 (constant S_ .f32 0x7FC00000#32))

/-- The result: every row's loss weighted by the calibration error, summed. -/
def out (x : FVec F S32768x1000 .f32) (t : IVec S32768 32) : FVec F S_ .f32 :=
  total (mulf (broadcastInDim S32768 ![0] bcast_S1_S32768_0
      (mulf (broadcastInDim S1 ![] bcast_S_S1 (constant S_ .f32 0xBF800000#32)) (ece (top x) (right x t))))
    (shapeCast S32768 (taken (logSoft x) (column t)) shapeCasts_S32768x1_S32768))

/-! ## The program as a line of operations, cut into stages -/

/-- A list with what it satisfies. -/
def packed {α : Type _} {ops : α} {P : α → Prop} (h : P ops) : { ops : α // P ops } := ⟨ops, h⟩

/-- The program's operations, in order. -/
def line : { ops : List (HloOp τ sig (Elt F)) // ∀ d, StableHlo.IsSeq (main (F := F) d) ops } := by
  apply packed
  hlo_seq

/-- The operations from one place on, as many as said. -/
def cut (n k : ℕ) : List (HloOp τ sig (Elt F)) := ((line (F := F)).1.drop n).take k

theorem after_drop (n k : ℕ) (V : Valuation τ sig (Elt F)) :
    StableHlo.after ((line (F := F)).1.drop n) V = StableHlo.after ((line (F := F)).1.drop (n + k)) (StableHlo.after (cut n k) V) := by
  rw [cut, ← Idealize.ShloMosaic.StableHlo.after_append, ← List.drop_drop, List.take_append_drop]

end Cert.Proof.Ref

end
-- ==== Proof.RefRun.lean ====
module

public import proofs.«01_k».proof.Proof.RefTerm

@[expose] public section

/-! # The run of the reference program

The line of operations read stage by stage at the few buffers the later stages use. -/

set_option maxRecDepth 16384

noncomputable section

namespace Cert.Proof.Ref

open Cert.ReferenceIdeal Cert.ReferenceIdeal.Gen Idealize.ShloMosaic Idealize.ShloMosaic.TcCoe Idealize.SL.Sem

variable {F : FTy → Type} [FloatOps F]

variable (V : Valuation τ sig (Elt F))

/-- What the bins' operations leave alone. -/
def Kept (V W : Valuation τ sig (Elt F)) : Prop :=
  W (Proc.devRef .tc main_arg0) = V (Proc.devRef .tc main_arg0) ∧ W (Proc.devRef .tc main_v0) = V (Proc.devRef .tc main_v0)
    ∧ W (Proc.devRef .tc main_v12) = V (Proc.devRef .tc main_v12) ∧ W (Proc.devRef .tc main_v16) = V (Proc.devRef .tc main_v16)

theorem Kept.trans {V W X : Valuation τ sig (Elt F)} (h : Kept V W) (h' : Kept W X) : Kept V X :=
  ⟨h'.1.trans h.1, h'.2.1.trans h.2.1, h'.2.2.1.trans h.2.2.1, h'.2.2.2.trans h.2.2.2⟩

/-! The softmax, its greatest entry and the labels as a column. -/

theorem soft_read : StableHlo.after (cut 0 17) V (Proc.devRef .tc main_v11) = soft (V (Proc.devRef .tc main_arg0)) := by
  after_reads_simp
  rfl

theorem top_read : StableHlo.after (cut 0 17) V (Proc.devRef .tc main_v12) = top (V (Proc.devRef .tc main_arg0)) := by
  after_reads_simp
  rfl

theorem column_read : StableHlo.after (cut 0 17) V (Proc.devRef .tc main_v0) = column (V (Proc.devRef .tc main_arg1)) := by
  after_reads_simp
  rfl

theorem arg0_read : StableHlo.after (cut 0 17) V (Proc.devRef .tc main_arg0) = V (Proc.devRef .tc main_arg0) := by
  after_reads_simp

/-! The predictions against the labels, and the error at its start. -/

theorem right_read : StableHlo.after (cut 17 10) V (Proc.devRef .tc main_v16)
    = uitofp .f32 (cmpi .eq (place (V (Proc.devRef .tc main_v11))) (shapeCast S32768 (V (Proc.devRef .tc main_v0)) shapeCasts_S32768x1_S32768)) := by
  after_reads_simp
  simp only [StableHlo.TRef.ofBuf_toBuf]
  refine congrArg (uitofp .f32) (congrArg₂ (cmpi .eq) ?_ rfl)
  rw [place_eq, pairs_eq]
  simp only [StableHlo.TRef.toBuf, StableHlo.TRef.ofBuf, cast_eq]

theorem zero_read : StableHlo.after (cut 17 10) V (Proc.devRef .tc main_v17) = broadcastInDim S1 ![] bcast_S_S1 (constant S_ .f32 0x00000000#32) := by
  after_reads_simp

theorem right_keeps : StableHlo.after (cut 17 10) V (Proc.devRef .tc main_arg0) = V (Proc.devRef .tc main_arg0)
    ∧ StableHlo.after (cut 17 10) V (Proc.devRef .tc main_v0) = V (Proc.devRef .tc main_v0)
    ∧ StableHlo.after (cut 17 10) V (Proc.devRef .tc main_v12) = V (Proc.devRef .tc main_v12) := by
  refine ⟨?_, ?_, ?_⟩ <;> after_reads_simp

/-! The five bins. -/

theorem bin0_read : StableHlo.after (cut 27 32) V (Proc.devRef .tc main_v39)
    = addf (V (Proc.devRef .tc main_v17)) (bin 0x00000000#32 0x3E4CCCCD#32 (V (Proc.devRef .tc main_v12)) (V (Proc.devRef .tc main_v16))) := by
  after_reads_simp
  rfl

theorem bin0_keeps : Kept V (StableHlo.after (cut 27 32) V) := by
  refine ⟨?_, ?_, ?_, ?_⟩ <;> after_reads_simp

theorem bin1_read : StableHlo.after (cut 59 32) V (Proc.devRef .tc main_v61)
    = addf (V (Proc.devRef .tc main_v39)) (bin 0x3E4CCCCD#32 0x3ECCCCCD#32 (V (Proc.devRef .tc main_v12)) (V (Proc.devRef .tc main_v16))) := by
  after_reads_simp
  rfl

theorem bin1_keeps : Kept V (StableHlo.after (cut 59 32) V) := by
  refine ⟨?_, ?_, ?_, ?_⟩ <;> after_reads_simp

theorem bin2_read : StableHlo.after (cut 91 32) V (Proc.devRef .tc main_v83)
    = addf (V (Proc.devRef .tc main_v61)) (bin 0x3ECCCCCD#32 0x3F19999A#32 (V (Proc.devRef .tc main_v12)) (V (Proc.devRef .tc main_v16))) := by
  after_reads_simp
  rfl

theorem bin2_keeps : Kept V (StableHlo.after (cut 91 32) V) := by
  refine ⟨?_, ?_, ?_, ?_⟩ <;> after_reads_simp

theorem bin3_read : StableHlo.after (cut 123 32) V (Proc.devRef .tc main_v105)
    = addf (V (Proc.devRef .tc main_v83)) (bin 0x3F19999A#32 0x3F4CCCCD#32 (V (Proc.devRef .tc main_v12)) (V (Proc.devRef .tc main_v16))) := by
  after_reads_simp
  rfl

theorem bin3_keeps : Kept V (StableHlo.after (cut 123 32) V) := by
  refine ⟨?_, ?_, ?_, ?_⟩ <;> after_reads_simp

theorem bin4_read : StableHlo.after (cut 155 32) V (Proc.devRef .tc main_v127)
    = addf (V (Proc.devRef .tc main_v105)) (bin 0x3F4CCCCD#32 0x3F800000#32 (V (Proc.devRef .tc main_v12)) (V (Proc.devRef .tc main_v16))) := by
  after_reads_simp
  rfl

theorem bin4_keeps : Kept V (StableHlo.after (cut 155 32) V) := by
  refine ⟨?_, ?_, ?_, ?_⟩ <;> after_reads_simp

/-! The log of the softmax, its value at the labels, and the end. -/

theorem logSoft_read : StableHlo.after (cut 187 15) V (Proc.devRef .tc main_v128) = logSoft (V (Proc.devRef .tc main_arg0)) := by
  after_reads_simp
  simp only [StableHlo.TRef.ofBuf_toBuf]
  rfl

theorem logSoft_keeps : StableHlo.after (cut 187 15) V (Proc.devRef .tc main_v0) = V (Proc.devRef .tc main_v0)
    ∧ StableHlo.after (cut 187 15) V (Proc.devRef .tc main_v127) = V (Proc.devRef .tc main_v127) := by
  refine ⟨?_, ?_⟩ <;> after_reads_simp

theorem taken_read : StableHlo.after (cut 202 22) V (Proc.devRef .tc main_v129)
    = taken (V (Proc.devRef .tc main_v128)) (V (Proc.devRef .tc main_v0)) := by
  after_reads_simp
  simp only [StableHlo.TRef.ofBuf_toBuf, StableHlo.TRef.ofBuf, StableHlo.TRef.toBuf, cast_eq]
  rfl

theorem taken_keeps : StableHlo.after (cut 202 22) V (Proc.devRef .tc main_v127) = V (Proc.devRef .tc main_v127) := by
  after_reads_simp

theorem last_read : StableHlo.after ((line (F := F)).1.drop 224) V (Proc.devRef .tc main_v135)
    = total (mulf (broadcastInDim S32768 ![0] bcast_S1_S32768_0
      (mulf (broadcastInDim S1 ![] bcast_S_S1 (constant S_ .f32 0xBF800000#32)) (V (Proc.devRef .tc main_v127))))
    (shapeCast S32768 (V (Proc.devRef .tc main_v129)) shapeCasts_S32768x1_S32768)) := by
  after_reads_simp
  rfl

/-- The result buffer at the end. -/
theorem line_read : StableHlo.after (line (F := F)).1 V (Proc.devRef .tc main_v135)
    = out (V (Proc.devRef .tc main_arg0)) (V (Proc.devRef .tc main_arg1)) := by
  have start : (line (F := F)).1 = (line (F := F)).1.drop 0 := (List.drop_zero).symm
  rw [start, after_drop 0 17, after_drop 17 10, after_drop 27 32, after_drop 59 32, after_drop 91 32, after_drop 123 32, after_drop 155 32,
    after_drop 187 15, after_drop 202 22]
  refine (last_read _).trans ?_
  rw [taken_read, taken_keeps, logSoft_read, (logSoft_keeps _).1, (logSoft_keeps _).2]
  set A := StableHlo.after (cut 0 17) V with hA
  set B := StableHlo.after (cut 17 10) A with hB
  have k0 := bin0_keeps B
  have k1 := k0.trans (bin1_keeps _)
  have k2 := k1.trans (bin2_keeps _)
  have k3 := k2.trans (bin3_keeps _)
  have k4 := k3.trans (bin4_keeps _)
  rw [bin4_read, k3.2.2.1, k3.2.2.2, bin3_read, k2.2.2.1, k2.2.2.2, bin2_read, k1.2.2.1, k1.2.2.2, bin1_read, k0.2.2.1, k0.2.2.2, bin0_read,
    k4.1, k4.2.1, hB, right_read, zero_read, (right_keeps _).1, (right_keeps _).2.1, (right_keeps _).2.2, hA, soft_read, top_read, column_read, arg0_read]
  rfl

theorem line_keeps : StableHlo.after (line (F := F)).1 V (Proc.devRef .tc main_arg0) = V (Proc.devRef .tc main_arg0)
    ∧ StableHlo.after (line (F := F)).1 V (Proc.devRef .tc main_arg1) = V (Proc.devRef .tc main_arg1) := by
  refine ⟨?_, ?_⟩ <;> after_reads_simp

/-- The program ends with its result at that term and its arguments as they were. -/
theorem run (m : (ℓ : Loc nD τ sig) → Buf (Elt F) ℓ) (ρ : Dev nD → PrngReg) :
    θ_run (defs (F := F)) (onTc (τ := τ) main) ⟨m, fun _ => 0, ρ⟩ fun r =>
      ∀ d : Dev nD, r.2.mem ((d.tc : Thread nD τ).loc main_v135) = out (m ((d.tc : Thread nD τ).loc main_arg0)) (m ((d.tc : Thread nD τ).loc main_arg1))
        ∧ r.2.mem ((d.tc : Thread nD τ).loc main_arg0) = m ((d.tc : Thread nD τ).loc main_arg0)
        ∧ r.2.mem ((d.tc : Thread nD τ).loc main_arg1) = m ((d.tc : Thread nD τ).loc main_arg1) := by
  refine θ_run_mono (StableHlo.run_hlo _ _ (by hlo_seq) (by decide) (by decide) (by simp)
    (by intro _ h; (repeat (cases h with | head => rfl | tail _ h => ?_)); exact nomatch h) _ _) ?_
  intro r h d
  exact ⟨(h d main_v135).trans (line_read _), (h d main_arg0).trans (line_keeps _).1, (h d main_arg1).trans (line_keeps _).2⟩

end Cert.Proof.Ref

end
-- ==== Proof.Spec.lean ====
/-
  The mathematics of one row of logits and of the calibration loss, over the extended reals: no program occurs here.
-/
module

public import Idealize.ShloMosaic.PureOps.Ideal
public import Idealize.ShloMosaic.PureOps.Ideal.Laws

@[expose] public section

noncomputable section

namespace Cert.Proof.Spec

open Idealize.ShloMosaic

/-! ## A row -/

section Row
variable {n : ℕ}

/-- A row's maximum, its total mass over that maximum, its confidence (the inverse of the mass), its class probabilities,
    and the greatest of these. -/
def peak (x : Fin n → EReal) : EReal := Finset.univ.fold max ⊥ x
def mass (x : Fin n → EReal) : EReal := ∑ j, Ideal.exp (x j - peak x)
def conf (x : Fin n → EReal) : EReal := Ideal.div 1 (mass x)
def prob (x : Fin n → EReal) (j : Fin n) : EReal := Ideal.div (Ideal.exp (x j - peak x)) (mass x)
def best (x : Fin n → EReal) : EReal := peak (prob x)
/-- The log-probability of a class whose logit is `v`. -/
def logp (x : Fin n → EReal) (v : EReal) : EReal := v - peak x - Ideal.log (mass x)

theorem le_peak (x : Fin n → EReal) (j : Fin n) : x j ≤ peak x :=
  (Finset.le_fold_max _).mpr (Or.inr ⟨j, Finset.mem_univ j, le_rfl⟩)

theorem peak_attained (x : Fin n → EReal) (h : peak x ≠ ⊥) : ∃ j, x j = peak x := by
  by_contra hc
  simp only [not_exists] at hc
  have : peak x < peak x := (Finset.fold_max_lt _).mpr ⟨bot_lt_iff_ne_bot.mpr h, fun j _ => lt_of_le_of_ne (le_peak x j) (hc j)⟩
  exact lt_irrefl _ this

theorem peak_le (x : Fin n → EReal) (v : EReal) (h : ∀ k, x k ≤ v) : peak x ≤ v :=
  (Finset.fold_max_le _).mpr ⟨bot_le, fun k _ => h k⟩

theorem peak_eq (x : Fin n → EReal) (v : EReal) (j : Fin n) (hj : x j = v) (h : ∀ k, x k ≤ v) : peak x = v :=
  le_antisymm (peak_le x v h) (hj ▸ le_peak x j)

theorem coe_sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A logit over a finite maximum: its exponential is a real between zero and one, one exactly at the maximum. -/
theorem exp_real (v : EReal) (m : ℝ) (hv : v ≤ m) :
    ∃ e : ℝ, 0 ≤ e ∧ e ≤ 1 ∧ Ideal.exp (v - m) = e ∧ (e = 1 ↔ v = m) := by
  induction v with
  | bot => exact ⟨0, le_rfl, zero_le_one, by rw [EReal.bot_sub]; rfl, by simp⟩
  | top => exact absurd hv (not_le.mpr (EReal.coe_lt_top m))
  | coe r =>
    have hr : r ≤ m := EReal.coe_le_coe_iff.mp hv
    refine ⟨Real.exp (r - m), (Real.exp_pos _).le, Real.exp_le_one_iff.mpr (by linarith), by rw [← EReal.coe_sub]; rfl, ?_⟩
    rw [Real.exp_eq_one_iff, sub_eq_zero, EReal.coe_eq_coe_iff]

/-- A row whose maximum is finite. -/
theorem finite_row (x : Fin n → EReal) (m : ℝ) (hm : peak x = m) :
    ∃ (M : ℝ) (e : Fin n → ℝ), 1 ≤ M ∧ mass x = M ∧ ∀ j, 0 ≤ e j ∧ e j ≤ 1 ∧ Ideal.exp (x j - peak x) = e j ∧ (e j = 1 ↔ x j = peak x) := by
  have h : ∀ j, ∃ e : ℝ, 0 ≤ e ∧ e ≤ 1 ∧ Ideal.exp (x j - peak x) = e ∧ (e = 1 ↔ x j = peak x) := fun j => by
    rw [hm]; exact exp_real (x j) m (hm ▸ le_peak x j)
  choose e he using h
  obtain ⟨j₀, hj₀⟩ := peak_attained x (by rw [hm]; exact EReal.coe_ne_bot m)
  refine ⟨∑ j, e j, e, ?_, ?_, he⟩
  · have h1 : e j₀ = 1 := (he j₀).2.2.2.mpr hj₀
    exact h1 ▸ Finset.single_le_sum (f := e) (fun j _ => (he j).1) (Finset.mem_univ j₀)
  · rw [← coe_sum_real]; exact Finset.sum_congr rfl fun j _ => (he j).2.2.1

/-- The quotient of a real by a real that is not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- In a row with a finite maximum a class probability is the confidence exactly where the logit is the maximum, and
    below it elsewhere; the greatest probability is the confidence. -/
theorem finite_prob (x : Fin n → EReal) (m : ℝ) (hm : peak x = m) :
    (∃ q : ℝ, conf x = q) ∧ best x = conf x ∧ (∀ j, ⊥ < prob x j) ∧ ∀ j, prob x j = conf x ↔ x j = peak x := by
  obtain ⟨M, e, hM, hmass, he⟩ := finite_row x m hm
  have hM0 : M ≠ 0 := by linarith
  have hMp : 0 < M := by linarith
  have hc : conf x = ((1 / M : ℝ) : EReal) := by unfold conf; rw [hmass, ← div_real 1 M hM0]; rfl
  have hp : ∀ j, prob x j = ((e j / M : ℝ) : EReal) := fun j => by unfold prob; rw [hmass, (he j).2.2.1, div_real _ _ hM0]
  have heq : ∀ j, prob x j = conf x ↔ x j = peak x := fun j => by
    rw [hp, hc, EReal.coe_eq_coe_iff, ← (he j).2.2.2, div_left_inj' hM0]
  obtain ⟨j₀, hj₀⟩ := peak_attained x (by rw [hm]; exact EReal.coe_ne_bot m)
  refine ⟨⟨_, hc⟩, peak_eq _ _ j₀ ((heq j₀).mpr hj₀) fun k => ?_, fun j => by rw [hp]; exact EReal.bot_lt_coe _, heq⟩
  rw [hp, hc, EReal.coe_le_coe_iff]
  exact div_le_div_of_nonneg_right (he k).2.1 hMp.le

/-- In a row whose maximum is infinite every exponential vanishes. -/
theorem infinite_exp (x : Fin n → EReal) (h : peak x = ⊥ ∨ peak x = ⊤) (j : Fin n) : Ideal.exp (x j - peak x) = 0 := by
  have e : x j - peak x = ⊥ := by
    rcases h with h | h
    · have hx := le_peak x j
      rw [h] at hx
      rw [le_bot_iff.mp hx]; exact EReal.bot_sub _
    · rw [h]; exact EReal.sub_top _
  rw [e]; rfl

theorem infinite_mass (x : Fin n → EReal) (h : peak x = ⊥ ∨ peak x = ⊤) : mass x = 0 :=
  Finset.sum_eq_zero fun j _ => infinite_exp x h j

/-- There the confidence is infinite and the greatest probability is the least value: neither lies in a bin. -/
theorem infinite_conf (x : Fin n → EReal) (h : peak x = ⊥ ∨ peak x = ⊤) : conf x = ⊤ := by
  unfold conf Ideal.div
  rw [infinite_mass x h, if_pos rfl, if_pos zero_lt_one]

theorem infinite_best (x : Fin n → EReal) (h : peak x = ⊥ ∨ peak x = ⊤) : best x = ⊥ := by
  refine le_bot_iff.mp (peak_le (prob x) ⊥ fun j => ?_)
  unfold prob Ideal.div
  rw [infinite_mass x h, if_pos rfl, infinite_exp x h, if_neg (lt_irrefl _)]

/-- The log-probability of a class of the row is never positive infinity. -/
theorem logp_ne_top (x : Fin n → EReal) (v : EReal) (hv : v ≤ peak x) : logp x v ≠ ⊤ := by
  unfold logp
  rcases eq_or_ne (peak x) ⊥ with h | h
  · rw [h] at hv ⊢; rw [le_bot_iff.mp hv]; simp
  rcases eq_or_ne (peak x) ⊤ with h' | h'
  · rw [h']; simp
  obtain ⟨m, hm⟩ : ∃ m : ℝ, peak x = m := ⟨(peak x).toReal, (EReal.coe_toReal h' h).symm⟩
  obtain ⟨M, e, hM, hmass, -⟩ := finite_row x m hm
  rw [hm] at hv ⊢
  rw [hmass]
  have hl : Ideal.log (M : EReal) = ((Real.log M : ℝ) : EReal) := if_neg (by linarith)
  rw [hl]
  induction v with
  | bot => simp
  | top => exact absurd hv (not_le.mpr (EReal.coe_lt_top m))
  | coe r => rw [← EReal.coe_sub, ← EReal.coe_sub]; exact EReal.coe_ne_top _

end Row

/-! ## A bin -/

/-- One where a confidence lies in the bin, zero elsewhere. -/
def inb (lo hi v : EReal) : EReal := if lo < v ∧ v ≤ hi then 1 else 0

/-- A bin's share of the calibration error from its count, its sum of confidences and its sum of accuracies. -/
def gap (cnt csum asum : EReal) : EReal :=
  if 0 < Ideal.div cnt 32768 then
    max (Ideal.div csum (max cnt 1) - Ideal.div asum (max cnt 1)) (-(Ideal.div csum (max cnt 1) - Ideal.div asum (max cnt 1)))
      * Ideal.div cnt 32768
  else 0

/-- The bin's share over all rows. -/
def binGap {ι : Type} [Fintype ι] (lo hi : EReal) (q a : ι → EReal) : EReal :=
  gap (∑ i, inb lo hi (q i)) (∑ i, inb lo hi (q i) * q i) (∑ i, inb lo hi (q i) * a i)

open Classical in
/-- The accuracy as a number. -/
def hit (p : Prop) : EReal := if p then 1 else 0

theorem inb_real (lo hi v : EReal) : ∃ r : ℝ, 0 ≤ r ∧ inb lo hi v = r := by
  unfold inb; split
  · exact ⟨1, zero_le_one, rfl⟩
  · exact ⟨0, le_rfl, rfl⟩

theorem inb_mul_real (lo hi v : EReal) (hhi : hi ≠ ⊤) : ∃ r : ℝ, inb lo hi v * v = r := by
  unfold inb; split
  · next h =>
    rw [one_mul]
    exact ⟨v.toReal, (EReal.coe_toReal (fun e => hhi (top_le_iff.mp (e ▸ h.2))) (ne_of_gt (lt_of_le_of_lt bot_le h.1))).symm⟩
  · exact ⟨0, by rw [zero_mul]; rfl⟩

theorem inb_hit_real (lo hi v : EReal) (p : Prop) : ∃ r : ℝ, inb lo hi v * hit p = r := by
  obtain ⟨r, -, hr⟩ := inb_real lo hi v
  rw [hr]; unfold hit; split
  · exact ⟨r, by rw [mul_one]⟩
  · exact ⟨0, by rw [mul_zero]; rfl⟩

theorem sum_real {ι : Type} [Fintype ι] (f : ι → EReal) (h : ∀ i, ∃ r : ℝ, f i = r) : ∃ r : ℝ, ∑ i, f i = r := by
  choose g hg using h
  exact ⟨∑ i, g i, by rw [← coe_sum_real]; exact Finset.sum_congr rfl fun i _ => hg i⟩

/-- A bin's share over finitely many rows is a real that is not negative. -/
theorem gap_real (c s a : ℝ) : ∃ r : ℝ, 0 ≤ r ∧ gap c s a = r := by
  unfold gap
  have hd : ((1 : ℝ) : EReal) = 1 := rfl
  have hn : ((32768 : ℝ) : EReal) = 32768 := rfl
  have hmax : max (c : EReal) 1 = ((max c 1 : ℝ) : EReal) := by rw [← hd]; exact (EReal.coe_strictMono.monotone.map_max).symm
  have hm0 : max c 1 ≠ 0 := ne_of_gt (lt_of_lt_of_le one_pos (le_max_right c 1))
  rw [hmax, ← hn, div_real _ _ (by norm_num : (32768 : ℝ) ≠ 0), div_real _ _ hm0, div_real _ _ hm0, ← EReal.coe_sub, ← EReal.coe_neg,
    show max ((s / max c 1 - a / max c 1 : ℝ) : EReal) ((-(s / max c 1 - a / max c 1) : ℝ) : EReal)
      = ((|s / max c 1 - a / max c 1| : ℝ) : EReal) from (EReal.coe_strictMono.monotone.map_max).symm, ← EReal.coe_mul]
  split
  · next h => exact ⟨_, mul_nonneg (abs_nonneg _) (EReal.coe_pos.mp h).le, rfl⟩
  · exact ⟨0, le_rfl, rfl⟩

/-- A bin that no value lies in has no share. -/
theorem gap_zero (s a : EReal) : gap 0 s a = 0 := by
  unfold gap
  rw [if_neg]
  have : Ideal.div 0 32768 = 0 := (div_real 0 32768 (by norm_num)).trans (by rw [zero_div]; rfl)
  rw [this]; exact lt_irrefl _

theorem binGap_top {ι : Type} [Fintype ι] (q a : ι → EReal) : binGap ⊤ ⊤ q a = 0 := by
  unfold binGap
  have : ∑ i, inb ⊤ ⊤ (q i) = 0 := Finset.sum_eq_zero fun i _ => if_neg fun h => not_top_lt h.1
  rw [this]; exact gap_zero _ _

theorem binGap_real {ι : Type} [Fintype ι] (lo hi : EReal) (hhi : hi ≠ ⊤) (q : ι → EReal) (p : ι → Prop) :
    ∃ r : ℝ, 0 ≤ r ∧ binGap lo hi q (fun i => hit (p i)) = r := by
  obtain ⟨c, hc⟩ := sum_real (fun i => inb lo hi (q i)) fun i => let ⟨r, _, h⟩ := inb_real lo hi (q i); ⟨r, h⟩
  obtain ⟨s, hs⟩ := sum_real (fun i => inb lo hi (q i) * q i) fun i => inb_mul_real lo hi (q i) hhi
  obtain ⟨a, ha⟩ := sum_real (fun i => inb lo hi (q i) * hit (p i)) fun i => inb_hit_real lo hi (q i) (p i)
  unfold binGap
  rw [hc, hs, ha]
  exact gap_real c s a

/-! ## The two readings of a row agree in every bin -/

section Agree
variable {n : ℕ}

/-- What the first class of greatest probability is: nothing exceeds it, and what equals it comes later. -/
def IsFirst (x : Fin n → EReal) (j : Fin n) : Prop := ∀ k, prob x k < prob x j ∨ (prob x k = prob x j ∧ j ≤ k)

/-- Where the row's maximum is finite, the first class of greatest probability is the class `t` exactly if `t`'s logit is the
    maximum, provided no earlier class attains it as well. -/
theorem first_iff (x : Fin n → EReal) (m : ℝ) (hm : peak x = m) (j t : Fin n) (hj : IsFirst x j)
    (ht : x t = peak x → ∀ k < t, x k < peak x) : j = t ↔ x t = peak x := by
  obtain ⟨-, hb, -, heq⟩ := finite_prob x m hm
  have hjm : prob x j = best x := le_antisymm (le_peak _ j)
    (peak_le (prob x) _ fun k => (hj k).elim le_of_lt fun h => h.1.le)
  have hxj : x j = peak x := (heq j).mp (hjm.trans hb)
  refine ⟨fun e => e ▸ hxj, fun h => ?_⟩
  have hpt : prob x t = prob x j := ((heq t).mpr h).trans (hb.symm.trans hjm.symm)
  rcases hj t with h' | ⟨-, h'⟩
  · exact absurd hpt h'.ne
  · rcases lt_or_eq_of_le h' with h'' | h''
    · exact absurd hxj (ht h j h'').ne
    · exact h''

variable (x : Fin n → EReal) (t j : Fin n) (hj : peak x ≠ ⊥ → peak x ≠ ⊤ → IsFirst x j)
  (ht : x t = peak x → ∀ k < t, x k < peak x) (lo hi : EReal) (hhi : hi ≠ ⊤)
include hj ht hhi

/-- The bin's three weights agree: of the count, of the confidence and of the accuracy. -/
theorem weights : inb lo hi (conf x) = inb lo hi (best x) ∧ inb lo hi (conf x) * conf x = inb lo hi (best x) * best x
    ∧ inb lo hi (conf x) * hit (x t = peak x) = inb lo hi (best x) * hit (j = t) := by
  by_cases h : peak x = ⊥ ∨ peak x = ⊤
  · have e1 : inb lo hi (conf x) = 0 := if_neg fun hc => hhi (top_le_iff.mp (infinite_conf x h ▸ hc.2))
    have e2 : inb lo hi (best x) = 0 := if_neg fun hc => not_lt_bot (infinite_best x h ▸ hc.1)
    rw [e1, e2]; simp
  · simp only [not_or] at h
    have hm : peak x = ((peak x).toReal : ℝ) := (EReal.coe_toReal h.2 h.1).symm
    obtain ⟨-, hb, -, -⟩ := finite_prob x _ hm
    have hi' := first_iff x _ hm j t (hj h.1 h.2) ht
    refine ⟨by rw [hb], by rw [hb], ?_⟩
    rw [hb, show (j = t) = (x t = peak x) from propext hi']

end Agree

/-! ## The last multiplication -/

/-- A factor that is real and not negative, its sign turned, passes through a sum none of whose terms is positive infinity. -/
theorem neg_mul_sum {ι : Type} (s : Finset ι) (g : ℝ) (hg : 0 ≤ g) (l : ι → EReal) (hl : ∀ i, l i ≠ ⊤) :
    (0 - (g : EReal)) * ∑ i ∈ s, l i = ∑ i ∈ s, (-1 * (g : EReal)) * l i := by
  classical
  have hg' : (0 : EReal) ≤ g := EReal.coe_nonneg.mpr hg
  have hneg : (0 - (g : EReal)) = -1 * (g : EReal) := by rw [zero_sub, EReal.neg_mul, one_mul]
  have hterm : ∀ v : EReal, v ≠ ⊤ → (g : EReal) * v ≠ ⊤ := by
    intro v hv
    induction v with
    | top => exact absurd rfl hv
    | coe r => rw [← EReal.coe_mul]; exact EReal.coe_ne_top _
    | bot =>
      rcases hg.eq_or_lt with h | h
      · rw [← h]; simp
      · rw [EReal.coe_mul_bot_of_pos h]; exact bot_ne_top
  have hsum : ∀ s : Finset ι, ∑ i ∈ s, l i ≠ ⊤ := by
    intro s
    induction s using Finset.induction_on with
    | empty => simp
    | insert a s ha ih => rw [Finset.sum_insert ha]; exact (EReal.add_lt_top (hl a) ih).ne
  rw [hneg]
  induction s using Finset.induction_on with
  | empty => simp
  | insert a s ha ih =>
    rw [Finset.sum_insert ha, Finset.sum_insert ha, ← ih]
    simp only [EReal.neg_mul, one_mul]
    rw [EReal.left_distrib_of_nonneg_of_ne_top hg' (EReal.coe_ne_top g),
      EReal.neg_add (Or.inr (hterm _ (hsum s))) (Or.inl (hterm _ (hl a))), sub_eq_add_neg]

end Cert.Proof.Spec

end
-- ==== Proof.Numbers.lean ====
/-
  The float words the programs hold, as numbers.
-/
module

public import proofs.«01_k».proof.Proof.Spec

@[expose] public section

noncomputable section

namespace Cert.Proof.Spec

open Idealize.ShloMosaic

/-! ## The words -/

theorem word_bot : Ideal.ofBits .f32 0xFF800000#32 = ⊥ := by simp [Ideal.ofBits, Ideal.ieee]
theorem word_top : Ideal.ofBits .f32 0x7F800000#32 = ⊤ := by simp [Ideal.ofBits, Ideal.ieee]
theorem word_one : Ideal.ofBits .f32 0x3F800000#32 = 1 := by
  simp [Ideal.ofBits, Ideal.ieee]; rw [← EReal.coe_mul]; norm_num
theorem word_rows : Ideal.ofBits .f32 0x47000000#32 = 32768 := by
  simp [Ideal.ofBits, Ideal.ieee]; rw [← EReal.coe_mul]; norm_num; rfl

/-- The bins' bounds as the kernel holds them: five bins, then rows no confidence falls in. -/
def loWord : Fin 8 → BitVec 32
  | 0 => 0x00000000#32 | 1 => 0x3E4CCCCD#32 | 2 => 0x3ECCCCCD#32 | 3 => 0x3F19999A#32 | 4 => 0x3F4CCCCD#32 | _ => 0x7F800000#32
def hiWord : Fin 8 → BitVec 32
  | 0 => 0x3E4CCCCD#32 | 1 => 0x3ECCCCCD#32 | 2 => 0x3F19999A#32 | 3 => 0x3F4CCCCD#32 | 4 => 0x3F800000#32 | _ => 0x7F800000#32
def lo (k : Fin 8) : EReal := Ideal.ofBits .f32 (loWord k)
def hi (k : Fin 8) : EReal := Ideal.ofBits .f32 (hiWord k)

/-- No bin of the five reaches up to infinity. -/
theorem hi_ne_top (k : Fin 8) (hk : k.val < 5) : hi k ≠ ⊤ := by
  match k with
  | 0 | 1 | 2 | 3 | 4 => unfold hi hiWord; simp [Ideal.ofBits, Ideal.ieee]; try exact EReal.coe_ne_top _
  | ⟨n + 5, h⟩ => simp at hk

end Cert.Proof.Spec

end
-- ==== Proof.Block.lean ====
/-
  What the kernel computes on one block of 1024 rows, at the extended reals, read at an index.
-/
module

public import proofs.«01_k».proof.Proof.Trip
public import proofs.«01_k».proof.Proof.Numbers
public import Idealize.ShloMosaic.Lib.ValueIdx
public import Idealize.ShloMosaic.Lib.ValueLayout
public import Idealize.ShloMosaic.Lib.ValueLayoutCasts
public import Idealize.ShloMosaic.Lib.Pipeline.Value

@[expose] public section

set_option maxRecDepth 16384

noncomputable section

namespace Cert.Proof.Stream

open Cert.Kernel Cert.Kernel.Gen
open Idealize.ShloMosaic Idealize.ShloMosaic.ValueIdx
open Cert.Proof.Spec

/-! ## A column of a block -/

/-- The block's column `l`: one row of the logits. -/
abbrev col (x : S1000x1024.Idx → EReal) (l : Fin 1024) : Fin 1000 → EReal := fun j => x (ix2 j l)
/-- The logit the kernel picks for the label `w`. -/
def pick (x : Fin 1000 → EReal) (w : BitVec 32) : EReal := ∑ j : Fin 1000, if BitVec.ofNat 32 j.val = w then x j else 0

variable (x : S1000x1024.Idx → Elt Ideal .f32) (t : S1x1x1024.Idx → Elt Ideal .i32) (l : Fin 1024)

theorem lift_col (h : S1000x1024.Reduces [0] S1024) (j : Fin 1000) : h.lift (ix1 l) j = ix2 j l := by
  funext d; match d with | ⟨0, _⟩ => rfl | ⟨1, _⟩ => rfl

/-- A column's sum and maximum, as the block's one-row results hold them. -/
theorem col_sum (v : FVec Ideal S1000x1024 .f32) (g : Fin 1000 → EReal) (hg : ∀ j, v (ix2 j l) = g j) :
    shapeCast S1x1024 (multiReduction .add [0] S1024 v 0x00000000#32 reduces_S1000x1024_S1024 (.inl rfl) rfl) shapeCasts_S1024_S1x1024 (ix2 0 l)
      = ∑ j, g j :=
  (shapeCast_a_1a_apply _ _ _ _).trans ((Ideal.multiReduction_add_single _ _ _ _ _ _).trans
    (Finset.sum_congr rfl fun j _ => (congrArg v (lift_col l _ j)).trans (hg j)))
theorem col_max (v : FVec Ideal S1000x1024 .f32) (g : Fin 1000 → EReal) (hg : ∀ j, v (ix2 j l) = g j) :
    shapeCast S1x1024 (multiReduction .maximumf [0] S1024 v 0xFF800000#32 reduces_S1000x1024_S1024 (.inl rfl) rfl) shapeCasts_S1024_S1x1024 (ix2 0 l)
      = peak g :=
  (shapeCast_a_1a_apply _ _ _ _).trans ((Ideal.multiReduction_maximumf_single _ _ _ _ _ _).trans
    (congrArg₂ (fun (b : EReal) (f : Fin 1000 → EReal) => Finset.univ.fold max b f) word_bot
      (funext fun j => (congrArg v (lift_col l _ j)).trans (hg j))))

theorem pay2_at (j : Fin 1000) : k0_pay2 (lead x) (ix2 j l) = x (ix2 j l) := by
  unfold k0_pay2 lead
  exact (shapeCast_1ab_ab_apply _ _ _ _).trans (shapeCast_ab_1ab_apply _ _ _ _ _)

theorem pay3_at : k0_pay3 (lead x) (ix2 0 l) = peak (col x l) := by
  unfold k0_pay3
  exact col_max l _ _ (pay2_at x l)

theorem pay4_at : k0_pay4 (lead x) (ix2 0 l) = mass (col x l) := by
  unfold k0_pay4
  refine col_sum l _ _ fun j => ?_
  show Ideal.exp (k0_pay2 (lead x) (ix2 j l) - broadcastTo S1000x1024 (k0_pay3 (lead x)) _ (ix2 j l)) = _
  rw [pay2_at, show broadcastTo S1000x1024 (k0_pay3 (lead x)) broadcasts_S1x1024_S1000x1024 (ix2 j l) = peak (col x l) from
    (broadcastTo_1b_ab_apply _ _ _ _).trans (pay3_at x l)]

theorem pay5_at : k0_pay5 (lead x) (ix2 0 l) = conf (col x l) := by
  unfold k0_pay5
  show Ideal.div (Ideal.ofBits .f32 0x3F800000#32) (k0_pay4 (lead x) (ix2 0 l)) = _
  rw [word_one, pay4_at]; rfl

theorem pay6_at : k0_pay6 (lead x) t (ix2 0 l) = pick (col x l) (t (ix3 0 0 l)) := by
  unfold k0_pay6
  refine col_sum l _ _ fun j => ?_
  show Scalar.select (IntOp.cmpi .eq (iota .tc S1000x1024 32 [0] _ (ix2 j l)) (broadcastTo S1000x1024 (shapeCast S1x1024 t _) _ (ix2 j l)))
    (k0_pay2 (lead x) (ix2 j l)) (Ideal.ofBits .f32 0x00000000#32) = _
  rw [pay2_at, Ideal.ofBits_zero_f32, iota_single_apply, show broadcastTo S1000x1024 (shapeCast S1x1024 t shapeCasts_S1x1x1024_S1x1024)
    broadcasts_S1x1024_S1000x1024 (ix2 j l) = t (ix3 0 0 l) from (broadcastTo_1b_ab_apply _ _ _ _).trans (shapeCast_1ab_ab_apply _ _ _ _)]
  show Scalar.select (BitVec.ofBool (decide (BitVec.ofNat 32 j.val = t (ix3 0 0 l)))) _ _ = _
  by_cases h : BitVec.ofNat 32 j.val = t (ix3 0 0 l)
  · rw [if_pos h, decide_eq_true h]; rfl
  · rw [if_neg h, decide_eq_false h]; rfl

/-- A comparison's bit widened and read as a number. -/
theorem bit_number (b : Bool) : (FloatOps.sitofp .f32 ((BitVec.ofBool b).setWidth 32) : Ideal .f32) = if b then (1 : EReal) else 0 := by
  cases b
  · show (((BitVec.setWidth 32 (BitVec.ofBool false)).toInt : ℝ) : EReal) = _; simp
  · show (((BitVec.setWidth 32 (BitVec.ofBool true)).toInt : ℝ) : EReal) = _; simp

theorem pay7_at : k0_pay7 (lead x) t (ix2 0 l) = hit (pick (col x l) (t (ix3 0 0 l)) = peak (col x l)) := by
  unfold k0_pay7
  show (FloatOps.sitofp .f32 ((BitVec.ofBool (decide (k0_pay6 (lead x) t (ix2 0 l) = k0_pay3 (lead x) (ix2 0 l)))).setWidth 32) : Ideal .f32) = _
  rw [bit_number, pay6_at, pay3_at]
  unfold hit; simp only [decide_eq_true_eq]; congr

theorem pay8_at : k0_pay8 (lead x) t (ix2 0 l) = logp (col x l) (pick (col x l) (t (ix3 0 0 l))) := by
  unfold k0_pay8
  show (k0_pay6 (lead x) t (ix2 0 l) - k0_pay3 (lead x) (ix2 0 l)) - Ideal.log (k0_pay4 (lead x) (ix2 0 l)) = _
  rw [pay6_at, pay3_at, pay4_at]; rfl

/-! ## The bins -/

theorem in_number (L H c c2 L' H' c' : EReal) (hL : L = L') (hH : H = H') (hc : c = c') (hc2 : c2 = c') :
    (FloatOps.sitofp .f32 ((IntOp.andi (BitVec.ofBool (decide (L < c))) (BitVec.ofBool (decide (c2 ≤ H)))).setWidth 32) : Ideal .f32)
      = inb L' H' c' := by
  subst hL hH hc hc2
  have e : IntOp.andi (BitVec.ofBool (decide (L < c2))) (BitVec.ofBool (decide (c2 ≤ H))) = BitVec.ofBool (decide (L < c2) && decide (c2 ≤ H)) := by
    cases decide (L < c2) <;> cases decide (c2 ≤ H) <;> rfl
  rw [e, bit_number]
  unfold inb; simp only [Bool.and_eq_true, decide_eq_true_eq]

/-- A column of eight spread over the block's columns. -/
theorem spread_rows {α : Type} (v : S8x1.Idx → α) (k : Fin 8) : broadcastTo S8x1024 v broadcasts_S8x1_S8x1024 (ix2 k l) = v (ix2 k 0) :=
  broadcastTo_apply _ _ _ _ fun a => match a with | ⟨0, _⟩ => rfl | ⟨1, _⟩ => rfl

theorem inBin_at (k : Fin 8) : inBin x (ix2 k l) = inb (lo k) (hi k) (conf (col x l)) := by
  unfold inBin k0_pay10 k0_pay9
  refine in_number _ _ _ _ _ _ _ ((spread_rows l _ k).trans ?_) ((spread_rows l _ k).trans ?_)
    ((broadcastTo_1b_ab_apply _ _ _ _).trans (pay5_at x l)) ((broadcastTo_1b_ab_apply _ _ _ _).trans (pay5_at x l))
  · fin_cases k <;> rfl
  · fin_cases k <;> rfl

/-- A row of eight's sum over the block's columns. -/
theorem row_sum (v : FVec Ideal S8x1024 .f32) (g : Fin 1024 → EReal) (k : Fin 8) (hg : ∀ l, v (ix2 k l) = g l) :
    shapeCast S8x1 (multiReduction .add [1] S8 v 0x00000000#32 reduces_S8x1024_S8 (.inl rfl) rfl) shapeCasts_S8_S8x1 (ix2 k 0)
      = ∑ l, g l :=
  (shapeCast_apply _ _ _ (ix1 k) (by rw [Shape.rowMajor_val_two, Shape.rowMajor_val_one]; simp)).trans
    ((Ideal.multiReduction_add_single _ _ _ _ _ _).trans
    (Finset.sum_congr rfl fun l _ => (congrArg v (show (reduces_S8x1024_S8 : S8x1024.Reduces [1] S8).lift (ix1 k) l = ix2 k l from by
      funext d; match d with | ⟨0, _⟩ => rfl | ⟨1, _⟩ => rfl)).trans (hg l)))

theorem cntNext_at (a : Vec Ideal S8x1 .f32) (k : Fin 8) :
    cntNext x a (ix2 k 0) = (a (ix2 k 0) : EReal) + ∑ l, inb (lo k) (hi k) (conf (col x l)) := by
  unfold cntNext k0_pay12 k0_pay11
  refine (shapeCast_apply _ _ _ (ix2 k 0) rfl).trans ?_
  exact congrArg (fun s : EReal => (a (ix2 k 0) : EReal) + s) (row_sum _ _ k fun l => inBin_at x l k)

theorem asumNext_at (a : Vec Ideal S8x1 .f32) (k : Fin 8) :
    asumNext x t a (ix2 k 0) = (a (ix2 k 0) : EReal)
      + ∑ l, inb (lo k) (hi k) (conf (col x l)) * hit (pick (col x l) (t (ix3 0 0 l)) = peak (col x l)) := by
  unfold asumNext k0_pay13
  refine (shapeCast_apply _ _ _ (ix2 k 0) rfl).trans ?_
  refine congrArg (fun s : EReal => (a (ix2 k 0) : EReal) + s) (row_sum _ _ k fun l => ?_)
  exact congrArg₂ (fun u w : EReal => u * w) (inBin_at x l k) ((broadcastTo_1b_ab_apply _ _ _ _).trans (pay7_at x t l))

theorem csumNext_at (a : Vec Ideal S8x1 .f32) (k : Fin 8) :
    csumNext x a (ix2 k 0) = (a (ix2 k 0) : EReal) + ∑ l, inb (lo k) (hi k) (conf (col x l)) * conf (col x l) := by
  unfold csumNext k0_pay14
  refine (shapeCast_apply _ _ _ (ix2 k 0) rfl).trans ?_
  refine congrArg (fun s : EReal => (a (ix2 k 0) : EReal) + s) (row_sum _ _ k fun l => ?_)
  exact congrArg₂ (fun u w : EReal => u * w) (inBin_at x l k) ((broadcastTo_1b_ab_apply _ _ _ _).trans (pay5_at x l))

theorem lsumNext_at (a : Vec Ideal S1x1 .f32) :
    lsumNext x t a (ix2 0 0) = (a (ix2 0 0) : EReal) + ∑ l, logp (col x l) (pick (col x l) (t (ix3 0 0 l))) := by
  unfold lsumNext k0_pay15
  refine (shapeCast_apply _ _ _ (ix2 0 0) rfl).trans ?_
  refine congrArg (fun s : EReal => (a (ix2 0 0) : EReal) + s) ?_
  refine (shapeCast_apply _ _ _ (ix1 0) (by rw [Shape.rowMajor_val_two, Shape.rowMajor_val_one]; rfl)).trans
    ((Ideal.multiReduction_add_single _ _ _ _ _ _).trans (Finset.sum_congr rfl fun l _ => ?_))
  exact (congrArg (k0_pay8 (lead x) t) (show (reduces_S1x1024_S1 : S1x1024.Reduces [1] S1).lift (ix1 0) l = ix2 0 l from by
      funext d; match d with | ⟨0, _⟩ => rfl | ⟨1, _⟩ => rfl)).trans (pay8_at x t l)

/-! ## The end -/

theorem gap_number (u p d z z' : EReal) (p' d' : EReal) (hp : p = p') (hd : d = d') (hz : z = 0) (hz' : z' = 0) :
    Scalar.select (BitVec.ofBool (decide (z < p))) (max d (-d) * p) z' = if 0 < p' then max d' (-d') * p' else 0 := by
  subst hp hd hz hz'
  by_cases h : 0 < p
  · rw [if_pos h, decide_eq_true h]; rfl
  · rw [if_neg h, decide_eq_false h]; rfl

theorem pay20_at (a b d : Vec Ideal S8x1 .f32) : k0_pay20 a b d (ix2 0 0) = ∑ k : Fin 8, gap (a (ix2 k 0)) (b (ix2 k 0)) (d (ix2 k 0)) := by
  unfold k0_pay20
  refine (shapeCast_apply _ _ _ (ix1 0) (by rw [Shape.rowMajor_val_two, Shape.rowMajor_val_one]; rfl)).trans
    ((Ideal.multiReduction_add_single _ _ _ _ _ _).trans (Finset.sum_congr rfl fun k _ => ?_))
  refine (congrArg (fun i => select _ _ _ i) (show (reduces_S8x1_S1 : S8x1.Reduces [0] S1).lift (ix1 0) k = ix2 k 0 from by
      funext d; match d with | ⟨0, _⟩ => rfl | ⟨1, _⟩ => rfl)).trans ?_
  unfold gap
  refine gap_number 0 _ _ _ _ _ _ ?_ ?_ Ideal.ofBits_zero_f32 Ideal.ofBits_zero_f32
  · exact congrArg (fun w : EReal => Ideal.div (a (ix2 k 0)) w) word_rows
  · exact congrArg (fun w : EReal => Ideal.div (b (ix2 k 0)) (max (a (ix2 k 0)) w) - Ideal.div (d (ix2 k 0)) (max (a (ix2 k 0)) w)) word_one

theorem pay1_at (e s : Vec Ideal S1x1 .f32) : k0_pay1 e s (ix2 0 0) = (0 - (e (ix2 0 0) : EReal)) * (s (ix2 0 0) : EReal) := by
  unfold k0_pay1
  refine (shapeCast_apply _ _ _ (ix2 0 0) rfl).trans ?_
  exact congrArg (fun z : EReal => (z - (e (ix2 0 0) : EReal)) * (s (ix2 0 0) : EReal)) Ideal.ofBits_zero_f32

end Cert.Proof.Stream

end
-- ==== Proof.RefValue.lean ====
/-
  What the reference computes, at the extended reals, read at an index.
-/
module

public import proofs.«01_k».proof.Proof.RefTerm
public import proofs.«01_k».proof.Proof.Numbers
public import Idealize.ShloMosaic.Lib.ValueIdx
public import Idealize.ShloMosaic.Lib.ValueLayout
public import Idealize.ShloMosaic.Lib.ValueLayoutCasts
public import Idealize.ShloMosaic.Lib.Pipeline.Value

@[expose] public section

set_option maxRecDepth 16384

noncomputable section

namespace Cert.Proof.Ref

open Cert.ReferenceIdeal Cert.ReferenceIdeal.Gen
open Idealize.ShloMosaic Idealize.ShloMosaic.ValueIdx
open Cert.Proof.Spec

/-! ## The entrywise operations at an index -/

section Entry
variable {s : Shape} (a b : FVec Ideal s .f32) (k : s.Idx) (u v : EReal) (ha : a k = u) (hb : b k = v)
include ha

theorem exp_entry : Host.exp a k = Ideal.exp u := by subst ha; rfl
theorem log_entry : Host.log a k = Ideal.log u := by subst ha; rfl

include hb

theorem sub_entry : subf a b k = u - v := by subst ha hb; rfl
theorem max_entry : maximumf a b k = max u v := by subst ha hb; rfl
theorem div_entry : Host.divf a b k = Ideal.div u v := by subst ha hb; rfl
theorem mul_entry : mulf a b k = u * v := by subst ha hb; rfl
theorem add_entry : addf a b k = u + v := by subst ha hb; rfl

end Entry

variable (x : FVec Ideal S32768x1000 .f32) (i : Fin 32768) (j : Fin 1000)

/-- One row of the logits. -/
abbrev row (x : S32768x1000.Idx → EReal) (i : Fin 32768) : Fin 1000 → EReal := fun j => x (ix2 i j)

theorem spread_at (v : FVec Ideal S32768 .f32) : spread v (ix2 i j) = v (ix1 i) :=
  (broadcastInDim_apply _ _ _ _ (ix2 i 0) fun a => match a with | ⟨0, _⟩ => rfl | ⟨1, _⟩ => rfl).trans
    (broadcastInDim_apply _ _ _ _ (ix1 i) fun a => match a with | ⟨0, _⟩ => rfl)

theorem reduces_row : S32768x1000.Reduces [1] S32768 := by decide

theorem lift_row (h : S32768x1000.Reduces [1] S32768) : h.lift (ix1 i) j = ix2 i j := by
  funext d; match d with | ⟨0, _⟩ => rfl | ⟨1, _⟩ => rfl

theorem rowMax_at (g : Fin 1000 → EReal) (hg : ∀ j, x (ix2 i j) = g j) : rowMax x (ix1 i) = peak g :=
  (Host.reduce_eq_fold_single (FloatOps.maximumf : Ideal .f32 → Ideal .f32 → Ideal .f32) x _ _ reduces_row _ (ix1 i)).trans
    (congrArg₂ (fun (b : EReal) (f : Fin 1000 → EReal) => Finset.univ.fold max b f) word_bot
      (funext fun j => (congrArg x (lift_row i j _)).trans (hg j)))

theorem rowSum_at (g : Fin 1000 → EReal) (hg : ∀ j, x (ix2 i j) = g j) : rowSum x (ix1 i) = ∑ j, g j :=
  (Ideal.hostReduceAdd_single _ reduces_row x _ (ix1 i)).trans
    ((congrArg₂ (fun (b c : EReal) => b + c) Ideal.ofBits_zero_f32
      (Finset.sum_congr rfl fun j _ => (congrArg x (lift_row i j _)).trans (hg j))).trans (zero_add _))

theorem rows_at (w : BitVec 32) : (rows w : FVec Ideal S32768 .f32) (ix1 i) = Ideal.ofBits .f32 w := rfl

theorem shifted_at : shifted x (ix2 i j) = row x i j - peak (row x i) := by
  unfold shifted
  refine sub_entry _ _ _ _ _ rfl ((spread_at i j _).trans ((max_entry _ _ _ ⊥ (peak (row x i)) ?_ ?_).trans (max_eq_right bot_le)))
  · exact (rows_at i _).trans word_bot
  · exact rowMax_at x i _ fun _ => rfl

theorem soft_at : soft x (ix2 i j) = prob (row x i) j := by
  unfold soft prob mass
  refine div_entry _ _ _ _ _ (exp_entry _ _ _ (shifted_at x i j)) ((spread_at i j _).trans ?_)
  exact rowSum_at _ i _ fun j => exp_entry _ _ _ (shifted_at x i j)

theorem top_at : top x (ix1 i) = best (row x i) := by
  unfold top best
  exact rowMax_at _ i _ fun j => soft_at x i j

theorem logSoft_at : logSoft x (ix2 i j) = logp (row x i) (row x i j) := by
  unfold logSoft logp
  refine sub_entry _ _ _ _ _ (shifted_at x i j)
    ((broadcastInDim_apply _ _ _ _ (ix2 i 0) fun a => match a with | ⟨0, _⟩ => rfl | ⟨1, _⟩ => rfl).trans
      (log_entry _ _ _ ((broadcastInDim_apply _ _ _ _ (ix1 i) fun a => match a with | ⟨0, _⟩ => rfl).trans ?_)))
  exact rowSum_at _ i _ fun j => exp_entry _ _ _ (shifted_at x i j)

/-! ## The bins -/

theorem bit_value (b : Bool) : (FloatOps.uitofp .f32 (BitVec.ofBool b) : Ideal .f32) = if b then (1 : EReal) else 0 := by
  cases b
  · show (((BitVec.ofBool false).toNat : ℝ) : EReal) = _; simp
  · show (((BitVec.ofBool true).toNat : ℝ) : EReal) = _; simp

theorem within_at (a b : BitVec 32) (q : FVec Ideal S32768 .f32) :
    within a b q (ix1 i) = inb (Ideal.ofBits .f32 a) (Ideal.ofBits .f32 b) (q (ix1 i)) := by
  unfold within
  show (FloatOps.uitofp .f32 (IntOp.andi (BitVec.ofBool (decide (Ideal.ofBits .f32 a < q (ix1 i)))) (BitVec.ofBool (decide (q (ix1 i) ≤ Ideal.ofBits .f32 b)))) : Ideal .f32) = _
  have e : ∀ c d : Bool, IntOp.andi (BitVec.ofBool c) (BitVec.ofBool d) = BitVec.ofBool (c && d) := by
    intro c d; cases c <;> cases d <;> rfl
  rw [e, bit_value]
  unfold inb; simp only [Bool.and_eq_true, decide_eq_true_eq]

theorem total_at (v : FVec Ideal S32768 .f32) (g : Fin 32768 → EReal) (hg : ∀ i, v (ix1 i) = g i) : total v ix0 = ∑ i, g i := by
  refine (Ideal.hostReduceAdd_total _ (fun b => b.elim0) v _ ix0).trans ?_
  refine (congrArg₂ (fun (b c : EReal) => b + c) Ideal.ofBits_zero_f32 rfl).trans ((zero_add _).trans ?_)
  refine Fintype.sum_equiv ⟨fun k => k 0, fun k => ix1 k, fun k => (eq_ix1 k).symm, fun _ => rfl⟩ _ _ fun k => ?_
  exact (congrArg v (eq_ix1 k)).trans (hg _)

theorem weigh_at (c s a : FVec Ideal S_ .f32) : weigh c s a ix0 = gap (c ix0) (s ix0) (a ix0) := by
  unfold weigh gap
  have hw : (constant S_ .f32 0x47000000#32 : FVec Ideal S_ .f32) ix0 = (32768 : EReal) := word_rows
  have h1 : (constant S_ .f32 0x3F800000#32 : FVec Ideal S_ .f32) ix0 = (1 : EReal) := word_one
  have h0 : (constant S_ .f32 0x00000000#32 : FVec Ideal S_ .f32) ix0 = (0 : EReal) := Ideal.ofBits_zero_f32
  show Scalar.select (BitVec.ofBool (decide ((constant S_ .f32 0x00000000#32 : FVec Ideal S_ .f32) ix0 < Ideal.div (c ix0) ((constant S_ .f32 0x47000000#32 : FVec Ideal S_ .f32) ix0))))
    (max (Ideal.div (s ix0) (max (c ix0) ((constant S_ .f32 0x3F800000#32 : FVec Ideal S_ .f32) ix0)) - Ideal.div (a ix0) (max (c ix0) ((constant S_ .f32 0x3F800000#32 : FVec Ideal S_ .f32) ix0)))
      (-(Ideal.div (s ix0) (max (c ix0) ((constant S_ .f32 0x3F800000#32 : FVec Ideal S_ .f32) ix0)) - Ideal.div (a ix0) (max (c ix0) ((constant S_ .f32 0x3F800000#32 : FVec Ideal S_ .f32) ix0))))
      * Ideal.div (c ix0) ((constant S_ .f32 0x47000000#32 : FVec Ideal S_ .f32) ix0)) ((constant S_ .f32 0x00000000#32 : FVec Ideal S_ .f32) ix0) = _
  rw [hw, h1, h0]
  by_cases h : 0 < Ideal.div (c ix0) 32768
  · rw [if_pos h, decide_eq_true h]; rfl
  · rw [if_neg h, decide_eq_false h]; rfl

theorem bin_at (a b : BitVec 32) (q r : FVec Ideal S32768 .f32) :
    bin a b q r (ix1 0) = binGap (Ideal.ofBits .f32 a) (Ideal.ofBits .f32 b) (fun i => q (ix1 i)) (fun i => r (ix1 i)) := by
  unfold bin binGap
  refine (broadcastInDim_apply _ _ _ _ ix0 fun a => a.elim0).trans ((weigh_at _ _ _).trans ?_)
  rw [total_at _ _ fun i => within_at i a b q,
    total_at _ (fun i => inb (Ideal.ofBits .f32 a) (Ideal.ofBits .f32 b) (q (ix1 i)) * q (ix1 i)) fun i =>
      (mul_entry _ _ _ _ _ rfl (within_at i a b q)).trans (mul_comm _ _),
    total_at _ (fun i => inb (Ideal.ofBits .f32 a) (Ideal.ofBits .f32 b) (q (ix1 i)) * r (ix1 i)) fun i =>
      (mul_entry _ _ _ _ _ rfl (within_at i a b q)).trans (mul_comm _ _)]

/-- The calibration error over the five bins. -/
theorem ece_at (q r : FVec Ideal S32768 .f32) :
    ece q r (ix1 0) = ∑ k : Fin 5, binGap (lo (k.castLE (by decide))) (hi (k.castLE (by decide))) (fun i => q (ix1 i)) (fun i => r (ix1 i)) := by
  rw [Fin.sum_univ_five]
  unfold ece
  have e := fun a b => bin_at a b q r
  refine (add_entry _ _ _ _ _ (add_entry _ _ _ _ _ (add_entry _ _ _ _ _ (add_entry _ _ _ _ _ (add_entry _ _ _ 0 _ Ideal.ofBits_zero_f32 (e _ _))
    (e _ _)) (e _ _)) (e _ _)) (e _ _)).trans ?_
  rw [zero_add]
  rfl

end Cert.Proof.Ref

end
-- ==== Proof.RefSearch.lean ====
/-
  The reference's prediction at the extended reals: the first place of the greatest value.
-/
module

public import proofs.«01_k».proof.Proof.RefValue

@[expose] public section

set_option maxRecDepth 16384

noncomputable section

namespace Cert.Proof.Ref

open Cert.ReferenceIdeal Cert.ReferenceIdeal.Gen
open Idealize.ShloMosaic Idealize.ShloMosaic.ValueIdx
open Cert.Proof.Spec

theorem class_toInt (j : Fin 1000) : (BitVec.ofNat 32 j.val).toInt = j.val := by
  have h : (BitVec.ofNat 32 j.val).toNat = j.val := by rw [BitVec.toNat_ofNat]; have := j.isLt; omega
  rw [BitVec.toInt_eq_toNat_of_lt (by rw [h]; have := j.isLt; omega), h]

theorem class_inj (j k : Fin 1000) (h : BitVec.ofNat 32 j.val = BitVec.ofNat 32 k.val) : j = k := by
  have := congrArg BitVec.toInt h
  rw [class_toInt, class_toInt] at this
  exact Fin.ext (by exact_mod_cast this)

/-! ## The first of the greatest -/

/-- A pair that comes before another in the search: of greater value, or of the same value and an earlier place. -/
def Ahead (r q : EReal × BitVec 32) : Prop := q.1 < r.1 ∨ (q.1 = r.1 ∧ r.2.toInt ≤ q.2.toInt)

theorem Ahead.refl (r : EReal × BitVec 32) : Ahead r r := Or.inr ⟨rfl, le_rfl⟩

theorem Ahead.trans {r s q : EReal × BitVec 32} (h : Ahead r s) (h' : Ahead s q) : Ahead r q := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

theorem step (a b : EReal × BitVec 32) :
    ((reducer_argmax_f32_i32 (F := Ideal) a b = a ∨ reducer_argmax_f32_i32 (F := Ideal) a b = b)
      ∧ Ahead (reducer_argmax_f32_i32 (F := Ideal) a b) a) ∧ Ahead (reducer_argmax_f32_i32 (F := Ideal) a b) b := by
  obtain ⟨a1, a2⟩ := a
  obtain ⟨b1, b2⟩ := b
  have e : reducer_argmax_f32_i32 (F := Ideal) (a1, a2) (b1, b2)
      = (if b1 < a1 then a1 else b1, if b1 < a1 ∨ (a1 = b1 ∧ a2.toInt < b2.toInt) then a2 else b2) := by
    show (Scalar.select (IntOp.ori (BitVec.ofBool (decide (b1 < a1))) (BitVec.ofBool (decide (a1 ≠ a1)))) a1 b1,
      Scalar.select (IntOp.ori (IntOp.ori (BitVec.ofBool (decide (b1 < a1))) (BitVec.ofBool (decide (a1 ≠ a1))))
        (IntOp.andi (BitVec.ofBool (decide (a1 = b1))) (BitVec.ofBool (a2.slt b2)))) a2 b2) = _
    rw [BitVec.slt_eq_decide]
    by_cases h1 : b1 < a1 <;> by_cases h2 : a1 = b1 <;> by_cases h3 : a2.toInt < b2.toInt <;> simp [h1, h2, h3] <;> exact ⟨rfl, rfl⟩
  rw [e]
  rcases lt_trichotomy b1 a1 with h | h | h
  · simp only [if_pos h, if_pos (Or.inl h : b1 < a1 ∨ (a1 = b1 ∧ a2.toInt < b2.toInt))]
    exact ⟨⟨Or.inl trivial, Ahead.refl _⟩, Or.inl h⟩
  · subst h
    by_cases h3 : a2.toInt < b2.toInt
    · simp only [h3, and_self, or_true, if_true, ite_self]
      exact ⟨⟨Or.inl trivial, Ahead.refl _⟩, Or.inr ⟨rfl, h3.le⟩⟩
    · simp only [lt_self_iff_false, h3, and_false, or_self, if_false]
      exact ⟨⟨Or.inr trivial, Or.inr ⟨rfl, not_lt.mp h3⟩⟩, Ahead.refl _⟩
  · have n1 : ¬ b1 < a1 := h.not_gt
    simp only [n1, h.ne, false_and, or_self, if_false]
    exact ⟨⟨Or.inr trivial, Or.inl h⟩, Ahead.refl _⟩

theorem search (L : List (EReal × BitVec 32)) (a : EReal × BitVec 32) :
    (L.foldl (reducer_argmax_f32_i32 (F := Ideal)) a = a ∨ L.foldl (reducer_argmax_f32_i32 (F := Ideal)) a ∈ L)
      ∧ Ahead (L.foldl (reducer_argmax_f32_i32 (F := Ideal)) a) a
      ∧ ∀ q ∈ L, Ahead (L.foldl (reducer_argmax_f32_i32 (F := Ideal)) a) q := by
  induction L generalizing a with
  | nil => exact ⟨Or.inl rfl, Ahead.refl _, fun q hq => absurd hq List.not_mem_nil⟩
  | cons b L ih =>
    rw [List.foldl_cons]
    obtain ⟨⟨s1, s2⟩, s3⟩ := step a b
    obtain ⟨i1, i2, i3⟩ := ih (reducer_argmax_f32_i32 (F := Ideal) a b)
    refine ⟨?_, i2.trans s2, fun q hq => ?_⟩
    · rcases i1 with i1 | i1
      · rcases s1 with s1 | s1
        · exact Or.inl (i1.trans s1)
        · exact Or.inr (by rw [i1, s1]; exact List.mem_cons_self)
      · exact Or.inr (List.mem_cons_of_mem _ i1)
    · rcases List.mem_cons.mp hq with rfl | hq
      · exact i2.trans s3
      · exact i3 q hq

/-- What the search of a row runs over: the row's values with their places. -/
theorem mem_fiber (p : FVec Ideal S32768x1000 .f32) (i : Fin 32768) (q : EReal × BitVec 32) :
    q ∈ Host.argReduceFiber (α := EReal) p (iotaInDim S32768x1000 32 1) reducesTo_S32768x1000_S32768_d1 (ix1 i)
      ↔ ∃ k : Fin 1000, q = (p (ix2 i k), BitVec.ofNat 32 k.val) := by
  unfold Host.argReduceFiber
  simp only [List.mem_map, List.mem_filter, List.mem_finRange, true_and, decide_eq_true_eq]
  have hd : ∀ (a : Fin 32768) (k : Fin 1000), Shape.ReducesTo.drop reducesTo_S32768x1000_S32768_d1 (ix2 a k : S32768x1000.Idx) = ix1 a := by
    intro a k; funext d; match d with | ⟨0, _⟩ => rfl
  constructor
  · rintro ⟨n, hn, rfl⟩
    obtain ⟨a, k, hak⟩ : ∃ (a : Fin 32768) (k : Fin 1000), S32768x1000.rowMajor.symm n = ix2 a k := ⟨_, _, eq_ix2 _⟩
    rw [hak] at hn ⊢
    rw [hd] at hn
    have : a = i := congrFun hn 0
    subst this
    exact ⟨k, rfl⟩
  · rintro ⟨k, rfl⟩
    refine ⟨S32768x1000.rowMajor (ix2 i k), ?_, ?_⟩ <;> rw [Equiv.symm_apply_apply]
    · exact hd i k
    · rfl

/-- What a search of a row's values from the least value and the first place returns. -/
theorem found (f : Fin 1000 → EReal) (L : List (EReal × BitVec 32)) (a r : EReal × BitVec 32)
    (hr : r = L.foldl (reducer_argmax_f32_i32 (F := Ideal)) a) (hL : ∀ q, q ∈ L ↔ ∃ k : Fin 1000, q = (f k, BitVec.ofNat 32 k.val))
    (ha : a.1 = ⊥) (ha' : a.2 = 0#32) :
    ∃ j : Fin 1000, r.2 = BitVec.ofNat 32 j.val ∧ ((∀ k, ⊥ < f k) → ∀ k, f k < f j ∨ (f k = f j ∧ j ≤ k)) := by
  obtain ⟨h1, h2, h3⟩ := search L a
  rw [← hr] at h1 h2 h3
  rcases h1 with h1 | h1
  · refine ⟨0, by rw [h1, ha']; rfl, fun hp k => ?_⟩
    have hk := h3 _ ((hL _).mpr ⟨k, rfl⟩)
    unfold Ahead at hk
    rw [h1, ha] at hk
    rcases hk with hk | hk
    · exact absurd hk not_lt_bot
    · exact absurd hk.1 (hp k).ne'
  · obtain ⟨j, hj⟩ := (hL _).mp h1
    refine ⟨j, by rw [hj], fun _ k => ?_⟩
    have hk := h3 _ ((hL _).mpr ⟨k, rfl⟩)
    unfold Ahead at hk
    rw [hj] at hk
    simp only [class_toInt] at hk
    exact hk.imp id fun h => ⟨h.1, by have := h.2; exact Fin.le_def.mpr (by exact_mod_cast this)⟩

/-- The place the search returns is a class, and if every value is above the least the first one of greatest value. -/
theorem pairs_at (p : FVec Ideal S32768x1000 .f32) (j : S32768.Idx) : pairs p j
    = (Host.argReduceFiber (α := EReal) p (iotaInDim S32768x1000 32 1) reducesTo_S32768x1000_S32768_d1 j).foldl
        (reducer_argmax_f32_i32 (F := Ideal))
        ((constant (F := Ideal) S_ .f32 0xFF800000#32) (Shape.Idx.first h_S_), (constantI S_ 32 0#32) (Shape.Idx.first h_S_)) := by
  refine (congrFun (pairs_eq p) j).trans ?_
  rw [Ideal.argReduce_eq_reduce2]
  exact Host.reduce2_eq_foldl_fiber _ _ _ _ _ _ _ _

theorem second_at {A B C : Type} (w : A → C) (q : A → B × C) (h : w = fun j => (q j).2) (j : A) : w j = (q j).2 := by rw [h]

theorem place_at (p : FVec Ideal S32768x1000 .f32) (i : Fin 32768) :
    ∃ j : Fin 1000, place p (ix1 i) = BitVec.ofNat 32 j.val
      ∧ ((∀ k, (⊥ : EReal) < p (ix2 i k)) → ∀ k, (p (ix2 i k) : EReal) < p (ix2 i j) ∨ ((p (ix2 i k) : EReal) = p (ix2 i j) ∧ j ≤ k)) := by
  obtain ⟨j, h, hj⟩ := found (fun k => p (ix2 i k)) _ _ (pairs p (ix1 i)) (pairs_at p (ix1 i)) (mem_fiber p i) word_bot rfl
  exact ⟨j, (second_at _ _ (place_eq p) (ix1 i)).trans h, hj⟩

end Cert.Proof.Ref

end
-- ==== Proof.KernelValue.lean ====
/-
  The kernel's result at the extended reals: the blocks' sums put together into sums over all rows.
-/
module

public import proofs.«01_k».proof.Proof.Block
public import proofs.«01_k».proof.Proof.Body
public import proofs.«01_k».proof.Proof.RefSearch

@[expose] public section

set_option maxRecDepth 16384

noncomputable section

namespace Cert.Proof.Stream

open Cert.Kernel Cert.Kernel.Gen
open Idealize.ShloMosaic Idealize.ShloMosaic.ValueIdx
open Idealize.ShloMosaic.TcCoe
open Cert.Proof.Spec

/-! ## The blocks of the arrays -/

/-- The row that column `l` of block `b` is. -/
def rowOf (b : Fin 32) (l : Fin 1024) : Fin 32768 := ⟨1024 * b.val + l.val, by omega⟩

theorem sum_rows (G : Fin 32768 → EReal) : ∑ b : Fin 32, ∑ l : Fin 1024, G (rowOf b l) = ∑ i, G i := by
  rw [← Fintype.sum_prod_type']
  refine Fintype.sum_equiv ((finProdFinEquiv (m := 32) (n := 1024)).trans (finCongr (by norm_num))) _ _ fun p => congrArg G (Fin.ext ?_)
  show 1024 * p.1.val + p.2.val = p.2.val + 1024 * p.1.val
  omega

/-- What a running total is after the 32 blocks. -/
theorem total_blocks (f : ℕ → EReal) (g : Fin 32 → EReal) (h0 : f 0 = 0) (hs : ∀ b : Fin 32, f (b.val + 1) = f b.val + g b) :
    f 32 = ∑ b, g b := by
  have upto : ∀ k, k ≤ 32 → f k = ∑ b ∈ Finset.range k, (if h : b < 32 then g ⟨b, h⟩ else 0) := by
    intro k
    induction k with
    | zero => intro _; rw [Finset.sum_range_zero]; exact h0
    | succ k ih =>
      intro hk
      rw [Finset.sum_range_succ, ← ih (by omega), dif_pos (by omega)]
      exact hs ⟨k, by omega⟩
  rw [upto 32 le_rfl, Finset.sum_range]
  exact Finset.sum_congr rfl fun b _ => dif_pos b.isLt

theorem bk_val (b : Fin 32) : Ring.bk 32 b.val = b := by
  revert b; decide

section Blocks
variable (c : Dev nD) (XA : Buf (Elt Ideal) (xM.view.loc (c : Thread nD τ))) (TA : Buf (Elt Ideal) (tM.view.loc (c : Thread nD τ)))

theorem xpay_at (b : Fin 32) (j : Fin 1000) (l : Fin 1024) : xpay c XA b (ix2 j l) = XA (ix2 j (rowOf b l)) := by
  refine congrArg XA (?_ : (xblk b).view.emb (ix2 j l) = ix2 j (rowOf b l))
  funext d
  refine Fin.ext ?_
  match d with
  | ⟨0, _⟩ => show 0 + 1 * j.val = j.val; omega
  | ⟨1, _⟩ => show 1024 * b.val + 1 * l.val = 1024 * b.val + l.val; omega

theorem tpay_at (b : Fin 32) (l : Fin 1024) : tpay c TA b (ix3 0 0 l) = TA (ix3 b 0 l) := by
  refine congrArg TA (?_ : (tblk b).view.emb (ix3 0 0 l) = ix3 b 0 l)
  funext d
  refine Fin.ext ?_
  match d with
  | ⟨0, _⟩ => show b.val + 1 * 0 = b.val; omega
  | ⟨1, _⟩ => show 0 + 1 * 0 = 0; omega
  | ⟨2, _⟩ => show 0 + 1 * l.val = l.val; omega

theorem pick_at (x : Fin 1000 → EReal) (k : Fin 1000) : pick x (BitVec.ofNat 32 k.val) = x k := by
  unfold pick
  rw [Finset.sum_eq_single k (fun j _ hj => if_neg fun h => hj (Ref.class_inj _ _ h)) (fun h => absurd (Finset.mem_univ k) h)]
  exact if_pos rfl

variable (A : Fin 32768 → Fin 1000 → EReal) (lab : Fin 32768 → Fin 1000)
  (hX : ∀ j i, XA (ix2 j i) = A i j) (hT : ∀ b l, TA (ix3 b 0 l) = BitVec.ofNat 32 (lab (rowOf b l)).val)

include hX in
theorem col_at (b : Fin 32) (l : Fin 1024) : col (xpay c XA b) l = A (rowOf b l) :=
  funext fun j => (xpay_at c XA b j l).trans (hX j _)

include hX hT in
theorem picked (b : Fin 32) (l : Fin 1024) :
    pick (col (xpay c XA (Ring.bk 32 b.val)) l) (tpay c TA (Ring.bk 32 b.val) (ix3 0 0 l)) = A (rowOf b l) (lab (rowOf b l)) := by
  rw [bk_val, col_at c XA A hX]
  exact (congrArg (pick _) ((tpay_at c TA b l).trans (hT b l))).trans (pick_at _ _)

include hX in
theorem cnt_total (k : Fin 8) : cntAt c XA 32 (ix2 k 0) = ∑ i, inb (lo k) (hi k) (conf (A i)) := by
  rw [← sum_rows]
  refine total_blocks (fun n => cntAt c XA n (ix2 k 0)) _ Ideal.ofBits_zero_f32 fun b => ?_
  refine (cntNext_at _ _ _).trans ?_
  simp only [bk_val, col_at c XA A hX]

include hX in
theorem csum_total (k : Fin 8) : csumAt c XA 32 (ix2 k 0) = ∑ i, inb (lo k) (hi k) (conf (A i)) * conf (A i) := by
  rw [← sum_rows]
  refine total_blocks (fun n => csumAt c XA n (ix2 k 0)) _ Ideal.ofBits_zero_f32 fun b => ?_
  refine (csumNext_at _ _ _).trans ?_
  simp only [bk_val, col_at c XA A hX]

include hX hT in
theorem asum_total (k : Fin 8) : asumAt c XA TA 32 (ix2 k 0) = ∑ i, inb (lo k) (hi k) (conf (A i)) * hit (A i (lab i) = peak (A i)) := by
  rw [← sum_rows]
  refine total_blocks (fun n => asumAt c XA TA n (ix2 k 0)) _ Ideal.ofBits_zero_f32 fun b => ?_
  refine (asumNext_at _ _ _ _).trans (congrArg (fun s : EReal => _ + s) (Finset.sum_congr rfl fun l _ => ?_))
  rw [picked c XA TA A lab hX hT, bk_val, col_at c XA A hX]

include hX hT in
theorem lsum_total : lsumAt c XA TA 32 (ix2 0 0) = ∑ i, logp (A i) (A i (lab i)) := by
  rw [← sum_rows]
  refine total_blocks (fun n => lsumAt c XA TA n (ix2 0 0)) _ Ideal.ofBits_zero_f32 fun b => ?_
  refine (lsumNext_at _ _ _).trans (congrArg (fun s : EReal => _ + s) (Finset.sum_congr rfl fun l _ => ?_))
  rw [picked c XA TA A lab hX hT, bk_val, col_at c XA A hX]

include hX hT in
/-- The kernel's result. -/
theorem outOf_at : outOf c XA TA (ix2 0 0)
    = (0 - ∑ k : Fin 8, binGap (lo k) (hi k) (fun i => conf (A i)) (fun i => hit (A i (lab i) = peak (A i)))) * ∑ i, logp (A i) (A i (lab i)) := by
  unfold outOf
  refine (pay1_at _ _).trans ?_
  rw [pay20_at, lsum_total c XA TA A lab hX hT]
  refine congrArg (fun s : EReal => (0 - s) * _) (Finset.sum_congr rfl fun k _ => ?_)
  rw [cnt_total c XA A hX, csum_total c XA A hX, asum_total c XA TA A lab hX hT]
  rfl

end Blocks

end Cert.Proof.Stream

end
-- ==== Proof.RefLabel.lean ====
/-
  The reference's loss at a label, at the extended reals, and its result.
-/
module

public import proofs.«01_k».proof.Proof.RefSearch

@[expose] public section

set_option maxRecDepth 16384

noncomputable section

namespace Cert.Proof.Ref

open Cert.ReferenceIdeal Cert.ReferenceIdeal.Gen
open Idealize.ShloMosaic Idealize.ShloMosaic.ValueIdx
open Cert.Proof.Spec

/-! ## The labels -/

section Labels
variable (x : FVec Ideal S32768x1000 .f32) (t : IVec S32768 32) (i : Fin 32768)

theorem column_at : column t (ix2 i 0) = t (ix1 i) := by
  unfold column
  exact shapeCast_apply _ _ _ (ix1 i) (by rw [Shape.rowMajor_val_two, Shape.rowMajor_val_one]; simp)

theorem right_at : right x t (ix1 i) = hit (place (soft x) (ix1 i) = t (ix1 i)) := by
  unfold right
  have e : shapeCast S32768 (column t) shapeCasts_S32768x1_S32768 (ix1 i) = t (ix1 i) :=
    (shapeCast_apply _ _ _ (ix2 i 0) (by rw [Shape.rowMajor_val_two, Shape.rowMajor_val_one]; simp)).trans (column_at t i)
  show (FloatOps.uitofp .f32 (BitVec.ofBool (place (soft x) (ix1 i) == shapeCast S32768 (column t) shapeCasts_S32768x1_S32768 (ix1 i))) : Ideal .f32) = _
  rw [bit_value, e]
  unfold hit
  by_cases h : place (soft x) (ix1 i) = t (ix1 i) <;> simp [h]

variable (τ : Fin 32768 → Fin 1000) (hτ : ∀ i, t (ix1 i) = BitVec.ofNat 32 (τ i).val)
include hτ

theorem places_at : places (column t) (ix3 i 0 0) = BitVec.ofNat 32 (τ i).val := by
  unfold places
  refine (shapeCast_apply _ _ _ (ix2 i 0) (by rw [Shape.rowMajor_val_two, Shape.rowMajor_val_three]; simp)).trans ?_
  have hc := (column_at t i).trans (hτ i)
  show Scalar.select (BitVec.ofBool ((column t (ix2 i 0)).slt (0#32))) (IntOp.addi (column t (ix2 i 0)) 1000#32) (column t (ix2 i 0)) = _
  rw [hc, BitVec.slt_eq_decide, class_toInt, decide_eq_false (by simp)]
  rfl

theorem inRow_at : inRow (places (column t)) (ix2 i 0) = 1#1 := by
  unfold inRow
  rw [Host.reduce_eq_foldl]
  have all : ∀ k : S32768x1x1.Idx, andi (cmpi .sge (places (column t)) (broadcastInDim S32768x1x1 ![] bcast_S_S32768x1x1 (constantI S_ 32 0#32)))
      (cmpi .sle (places (column t)) (broadcastInDim S32768x1x1 ![0, 1, 2] bcast_S1x1x1_S32768x1x1_0_1_2
        (broadcastInDim S1x1x1 ![2] bcast_S1_S1x1x1_2 (constantI S1 32 999#32)))) k = 1#1 := by
    intro k
    obtain ⟨a, rfl⟩ : ∃ a : Fin 32768, k = ix3 a 0 0 := ⟨k 0, by
      funext d; match d with | ⟨0, _⟩ => rfl | ⟨1, _⟩ => exact Subsingleton.elim (α := Fin 1) _ _ | ⟨2, _⟩ => exact Subsingleton.elim (α := Fin 1) _ _⟩
    show IntOp.andi (BitVec.ofBool ((0#32).sle (places (column t) (ix3 a 0 0)))) (BitVec.ofBool ((places (column t) (ix3 a 0 0)).sle 999#32)) = _
    rw [places_at t a τ hτ, BitVec.sle_eq_decide, BitVec.sle_eq_decide, class_toInt, decide_eq_true (by simp),
      decide_eq_true (by have := (τ a).isLt; show ((τ a).val : ℤ) ≤ 999; omega)]
    rfl
  generalize ((List.finRange S32768x1x1.numel).map S32768x1x1.rowMajor.symm).filter _ = L
  have run : ∀ L : List S32768x1x1.Idx, L.foldl (fun r k => IntOp.andi r (andi (cmpi .sge (places (column t)) (broadcastInDim S32768x1x1 ![] bcast_S_S32768x1x1 (constantI S_ 32 0#32)))
      (cmpi .sle (places (column t)) (broadcastInDim S32768x1x1 ![0, 1, 2] bcast_S1x1x1_S32768x1x1_0_1_2
        (broadcastInDim S1x1x1 ![2] bcast_S1_S1x1x1_2 (constantI S1 32 999#32)))) k)) 1#1 = 1#1 := by
    intro L
    induction L with
    | nil => rfl
    | cons k L ih => rw [List.foldl_cons, all k]; exact ih
  exact run L

omit hτ in
/-- A row's value at its place, the place clamped into the row. -/
theorem gather_at (v : FVec Ideal S32768x1000 .f32) (idx : IVec S32768x1x1 32) :
    Host.gather gather_S32768x1000_S32768x1x1_S32768x1_n_1_0_0_1_2_11 v idx (ix2 i 0)
      = v (ix2 i ⟨min (idx (ix3 i 0 0)).toInt.toNat 999, by omega⟩) := by
  unfold Host.gather
  congr 1
  funext a
  refine Fin.ext ?_
  show gather_S32768x1000_S32768x1x1_S32768x1_n_1_0_0_1_2_11.start (ix2 i 0) idx a
    + gather_S32768x1000_S32768x1x1_S32768x1_n_1_0_0_1_2_11.batchCoord (ix2 i 0) a
      + gather_S32768x1000_S32768x1x1_S32768x1_n_1_0_0_1_2_11.offCoord (ix2 i 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S32768x1000_S32768x1x1_S32768x1_n_1_0_0_1_2_11.operandBatchingDims from List.mem_singleton.mpr rfl)]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S32768x1000_S32768x1x1_S32768x1_n_1_0_0_1_2_11.startIndexMap from List.mem_singleton.mpr rfl)]
    refine congrArg (fun k : S32768x1x1.Idx => min (idx k).toInt.toNat 999) ?_
    funext b; refine Fin.ext ?_
    match b with
    | ⟨0, _⟩ => rfl
    | ⟨1, _⟩ => rfl
    | ⟨2, _⟩ => rfl

theorem taken_at (v : FVec Ideal S32768x1000 .f32) : taken v (column t) (ix2 i 0) = v (ix2 i (τ i)) := by
  unfold taken
  have sel : ∀ (c : IVec S32768x1 1) (a b : FVec Ideal S32768x1 .f32) (k : S32768x1.Idx) (w : Ideal .f32), c k = 1#1 → a k = w → select c a b k = w := by
    intro c a b k w h1 h2
    show Scalar.select (c k) (a k) (b k) = w
    rw [h1, h2]; rfl
  refine sel _ _ _ _ _ (inRow_at t i τ hτ) ((gather_at i v _).trans ?_)
  refine congrArg (fun k => v (ix2 i k)) (Fin.ext ?_)
  show min (places (column t) (ix3 i 0 0)).toInt.toNat 999 = (τ i).val
  rw [places_at t i τ hτ, class_toInt]
  have := (τ i).isLt
  omega

/-- The reference's result. -/
theorem out_at : out x t ix0 = ∑ i, (-1 * ece (top x) (right x t) (ix1 0)) * logp (row x i) (row x i (τ i)) := by
  unfold out
  refine total_at _ _ fun i => mul_entry _ _ _ _ _ ?_ ?_
  · refine (broadcastInDim_apply _ _ _ _ (ix1 0) fun a => match a with | ⟨0, _⟩ => rfl).trans (mul_entry _ _ _ _ _ ?_ rfl)
    show Ideal.ofBits .f32 0xBF800000#32 = -1
    simp [Ideal.ofBits, Ideal.ieee]; rw [← EReal.coe_mul]; norm_num
  · refine (shapeCast_apply _ _ _ (ix2 i 0) (by rw [Shape.rowMajor_val_two, Shape.rowMajor_val_one]; simp)).trans ?_
    exact (taken_at t i τ hτ _).trans (logSoft_at x i _)

end Labels

end Cert.Proof.Ref

end
-- ==== Proof.Equal.lean ====
/-
  The kernel's formula and the reference's are one number.
-/
module

public import proofs.«01_k».proof.Proof.KernelValue
public import proofs.«01_k».proof.Proof.RefLabel

@[expose] public section

set_option maxRecDepth 16384

noncomputable section

namespace Cert.Proof.Spec

open Idealize.ShloMosaic

/-- The bins that are no bins add nothing: five of the eight are left. -/
theorem eight_bins {ι : Type} [Fintype ι] (q a : ι → EReal) : ∑ k : Fin 8, binGap (lo k) (hi k) q a
    = ∑ k : Fin 5, binGap (lo (k.castLE (by decide))) (hi (k.castLE (by decide))) q a := by
  have l : ∀ k : Fin 8, 5 ≤ k.val → lo k = ⊤ := by
    intro k hk
    have : loWord k = 0x7F800000#32 := by revert k; decide
    unfold lo; rw [this]; exact word_top
  have h : ∀ k : Fin 8, 5 ≤ k.val → hi k = ⊤ := by
    intro k hk
    have : hiWord k = 0x7F800000#32 := by revert k; decide
    unfold hi; rw [this]; exact word_top
  have z : ∀ k : Fin 8, 5 ≤ k.val → binGap (lo k) (hi k) q a = 0 := fun k hk => by rw [l k hk, h k hk]; exact binGap_top q a
  rw [Fin.sum_univ_eight, Fin.sum_univ_five, z 5 (by decide), z 6 (by decide), z 7 (by decide)]
  simp only [add_zero]
  rfl

section Loss
variable {n : ℕ} (A : Fin n → Fin 1000 → EReal) (lab j : Fin n → Fin 1000)
  (hj : ∀ i, peak (A i) ≠ ⊥ → peak (A i) ≠ ⊤ → IsFirst (A i) (j i))
  (ht : ∀ i, A i (lab i) = peak (A i) → ∀ k < lab i, A i k < peak (A i))

include hj ht in
theorem same_bin (lo hi : EReal) (hhi : hi ≠ ⊤) :
    binGap lo hi (fun i => conf (A i)) (fun i => hit (A i (lab i) = peak (A i))) = binGap lo hi (fun i => best (A i)) (fun i => hit (j i = lab i)) := by
  have w := fun i => weights (A i) (lab i) (j i) (hj i) (ht i) lo hi hhi
  unfold binGap
  rw [Finset.sum_congr rfl fun i _ => (w i).1, Finset.sum_congr rfl fun i _ => (w i).2.1, Finset.sum_congr rfl fun i _ => (w i).2.2]

include hj ht in
theorem same_loss : (0 - ∑ k : Fin 8, binGap (lo k) (hi k) (fun i => conf (A i)) (fun i => hit (A i (lab i) = peak (A i)))) * ∑ i, logp (A i) (A i (lab i))
    = ∑ i, (-1 * ∑ k : Fin 5, binGap (lo (k.castLE (by decide))) (hi (k.castLE (by decide))) (fun i => best (A i)) (fun i => hit (j i = lab i)))
        * logp (A i) (A i (lab i)) := by
  rw [eight_bins, Finset.sum_congr rfl fun (k : Fin 5) _ => same_bin A lab j hj ht _ _ (hi_ne_top (k.castLE (by decide)) k.isLt)]
  have r : ∀ k : Fin 5, ∃ r : ℝ, 0 ≤ r ∧ binGap (lo (k.castLE (by decide))) (hi (k.castLE (by decide))) (fun i => best (A i)) (fun i => hit (j i = lab i)) = r :=
    fun k => binGap_real _ _ (hi_ne_top (k.castLE (by decide)) k.isLt) _ _
  choose g hg he using r
  rw [Finset.sum_congr rfl fun (k : Fin 5) _ => he k, coe_sum_real]
  exact neg_mul_sum _ _ (Finset.sum_nonneg fun k _ => hg k) _ fun i => logp_ne_top _ _ (le_peak _ _)

end Loss

end Cert.Proof.Spec

end
-- ==== Proof.PreAt.lean ====
/-
  The precondition read at a row: the label names a class, and no class before it shares the row's maximum with it.
-/
module

public import proofs.«01_k».proof.Proof.KernelValue
public import proofs.«01_k».proof.Pre_target_ok

@[expose] public section

set_option maxRecDepth 16384

noncomputable section

namespace Cert.Proof.Pre

open Cert.Pre_target_ok Cert.Pre_target_ok.Facts
open Idealize.ShloMosaic Idealize.ShloMosaic.ValueIdx
open Cert.Proof.Spec

theorem facts : Cert.Pre_target_ok.Facts where
  shapeCasts_S32768_S32768x1 := by decide
  reducesTo_S32768x1000_S32768_d1 := by decide
  h_S_ := by decide
  bcast_S32768_S32768x1_0 := by decide
  bcast_S32768x1_S32768x1000_0_1 := by decide
  bcast_S_S32768x1000 := by decide
  bcast_S_S32768x1 := by decide

/-! ## The entrywise tests at an index -/

section Entry
variable {s : Shape} (k : s.Idx)

theorem and_one (a b : IVec s 1) (h : andi a b k = 1#1) : a k = 1#1 ∧ b k = 1#1 := by
  have e : ∀ u v : BitVec 1, IntOp.andi u v = 1#1 → u = 1#1 ∧ v = 1#1 := by decide
  exact e _ _ h

theorem or_one (a b : IVec s 1) (h : ori a b k = 1#1) : a k = 1#1 ∨ b k = 1#1 := by
  have e : ∀ u v : BitVec 1, IntOp.ori u v = 1#1 → u = 1#1 ∨ v = 1#1 := by decide
  exact e _ _ h

theorem of_bit (b : Bool) (h : BitVec.ofBool b = 1#1) : b = true := by
  cases b
  · exact absurd h (by decide)
  · rfl

theorem lt_one (a b : FVec Ideal s .f32) (u v : EReal) (ha : a k = u) (hb : b k = v) (h : cmpf .olt a b k = 1#1) : u < v := by
  subst ha hb
  exact of_decide_eq_true (of_bit _ h)

theorem ge_one (a b : IVec s 32) (u v : BitVec 32) (ha : a k = u) (hb : b k = v) (h : cmpi .sge a b k = 1#1) : v.toInt ≤ u.toInt := by
  subst ha hb
  have := of_bit _ h
  rw [BitVec.sle_eq_decide] at this
  exact of_decide_eq_true this

theorem less_one (a b : IVec s 32) (u v : BitVec 32) (ha : a k = u) (hb : b k = v) (h : cmpi .slt a b k = 1#1) : u.toInt < v.toInt := by
  subst ha hb
  have := of_bit _ h
  rw [BitVec.slt_eq_decide] at this
  exact of_decide_eq_true this

end Entry

theorem word_class (w : BitVec 32) (h0 : (0#32).toInt ≤ w.toInt) (h1 : w.toInt < (1000#32).toInt) : ∃ j : Fin 1000, w = BitVec.ofNat 32 j.val := by
  have e0 : (0#32).toInt = 0 := by decide
  have e1 : (1000#32).toInt = 1000 := by decide
  rw [e0] at h0; rw [e1] at h1
  have hw := w.isLt
  have hn : w.toNat < 1000 := by
    rw [BitVec.toInt_eq_toNat_cond] at h0 h1
    split at h0 <;> split at h1 <;> omega
  exact ⟨⟨w.toNat, hn⟩, by simp⟩

/-! ## The two row values -/

variable [Cert.Pre_target_ok.Facts]
variable (x : FVec Ideal S32768x1000 .f32) (t : IVec S32768 32) (i : Fin 32768) (j : Fin 1000)

theorem label_at : shapeCast S32768x1 t shapeCasts_S32768_S32768x1 (ix2 i 0) = t (ix1 i) :=
  shapeCast_apply _ _ _ (ix1 i) (by rw [Shape.rowMajor_val_two, Shape.rowMajor_val_one]; simp)

theorem out_at {α : Type} (v : S32768x1.Idx → α) : broadcastInDim S32768x1000 ![0, 1] bcast_S32768x1_S32768x1000_0_1 v (ix2 i j) = v (ix2 i 0) :=
  broadcastInDim_apply _ _ _ _ (ix2 i 0) fun a => match a with | ⟨0, _⟩ => rfl | ⟨1, _⟩ => rfl

theorem up_at {α : Type} (v : S32768.Idx → α) : broadcastInDim S32768x1 ![0] bcast_S32768_S32768x1_0 v (ix2 i 0) = v (ix1 i) :=
  broadcastInDim_apply _ _ _ _ (ix1 i) fun a => match a with | ⟨0, _⟩ => rfl

theorem top_at : Host.reduce (FloatOps.maximumf : Ideal .f32 → Ideal .f32 → Ideal .f32) x (constant S_ .f32 0xFF800000#32)
    reducesTo_S32768x1000_S32768_d1 h_S_ (ix1 i) = peak (Ref.row x i) :=
  Ref.rowMax_at x i _ fun _ => rfl

theorem named_at (v : FVec Ideal S32768x1000 .f32) (hv : ∀ j, v (ix2 i j) = if BitVec.ofNat 32 j.val = t (ix1 i) then x (ix2 i j) else 0) :
    Host.reduceAdd v (constant S_ .f32 0x00000000#32) reducesTo_S32768x1000_S32768_d1 h_S_ (ix1 i) = Stream.pick (Ref.row x i) (t (ix1 i)) :=
  Ref.rowSum_at v i _ hv

theorem where_at (z : FVec Ideal S_ .f32) (hz : ∀ k, z k = (0 : EReal)) (w : IVec S32768x1000 32) (hw : w (ix2 i j) = t (ix1 i)) :
    fn_where (F := Ideal) (cmpi .eq (iotaInDim S32768x1000 32 1) w) x z (ix2 i j) = if BitVec.ofNat 32 j.val = t (ix1 i) then x (ix2 i j) else 0 := by
  unfold fn_where
  show Scalar.select (BitVec.ofBool (decide (BitVec.ofNat 32 j.val = w (ix2 i j)))) (x (ix2 i j)) (z _) = _
  rw [hw, hz]
  by_cases h : BitVec.ofNat 32 j.val = t (ix1 i)
  · rw [if_pos h, decide_eq_true h]; rfl
  · rw [if_neg h, decide_eq_false h]; rfl

variable (h : Cert.Pre_target_ok.fn (F := Ideal) x t = fun _ => 1#1)
include h

theorem tests : ((0#32).toInt ≤ (t (ix1 i)).toInt ∧ (t (ix1 i)).toInt < (1000#32).toInt)
    ∧ ((t (ix1 i)).toInt ≤ (BitVec.ofNat 32 j.val).toInt ∨ x (ix2 i j) < peak (Ref.row x i) ∨ Stream.pick (Ref.row x i) (t (ix1 i)) < peak (Ref.row x i)) := by
  have h := congrFun h (ix2 i j)
  unfold fn fn_part1 at h
  obtain ⟨ha, hb⟩ := and_one _ _ _ h
  obtain ⟨h0, h1⟩ := and_one _ _ _ ((out_at i j _).symm.trans ha)
  refine ⟨⟨ge_one _ _ _ _ _ (label_at t i) rfl h0, less_one _ _ _ _ _ (label_at t i) rfl h1⟩, ?_⟩
  rcases or_one _ _ _ hb with hb | hb
  · rcases or_one _ _ _ hb with hb | hb
    · exact Or.inl (ge_one _ _ _ _ _ rfl ((out_at i j _).trans (label_at t i)) hb)
    · exact Or.inr (Or.inl (lt_one _ _ _ _ _ rfl ((out_at i j _).trans ((up_at i _).trans (top_at x i))) hb))
  · refine Or.inr (Or.inr (lt_one _ _ _ _ _ ?_ ((up_at i _).trans (top_at x i)) ((out_at i j _).symm.trans hb)))
    exact (up_at i _).trans (named_at x t i _ fun j => where_at x t i j _ (fun _ => Ideal.ofBits_zero_f32) _ ((out_at i j _).trans (label_at t i)))

/-- Every row has its label's class, -/
theorem classes : ∃ lab : Fin 32768 → Fin 1000, ∀ i, t (ix1 i) = BitVec.ofNat 32 (lab i).val := by
  have := fun i => word_class _ (tests x t i 0 h).1.1 (tests x t i 0 h).1.2
  choose lab hl using this
  exact ⟨lab, hl⟩

/-- and where that class attains the row's maximum no earlier one does. -/
theorem no_earlier (lab : Fin 32768 → Fin 1000) (hl : ∀ i, t (ix1 i) = BitVec.ofNat 32 (lab i).val) (i : Fin 32768)
    (ht : Ref.row x i (lab i) = peak (Ref.row x i)) (k : Fin 1000) (hk : k < lab i) : Ref.row x i k < peak (Ref.row x i) := by
  rcases (tests x t i k h).2 with hc | hc | hc
  · rw [hl, Ref.class_toInt, Ref.class_toInt] at hc
    have : (lab i).val ≤ k.val := by exact_mod_cast hc
    exact absurd hk (by rw [Fin.lt_def]; omega)
  · exact hc
  · rw [hl, Stream.pick_at, ht] at hc
    exact absurd hc (lt_irrefl _)

end Cert.Proof.Pre

end
-- ==== Proof.Final.lean ====
/-
  The kernel's result and the reference's are equal.
-/
module

public import proofs.«01_k».proof.Proof.Launch
public import proofs.«01_k».proof.Proof.RefRun
public import proofs.«01_k».proof.Proof.Equal
public import proofs.«01_k».proof.Proof.PreAt

@[expose] public section

set_option maxRecDepth 16384

noncomputable section

namespace Cert.Proof.Stream

open Cert.Kernel Cert.Kernel.Gen
open Idealize.ShloMosaic Idealize.ShloMosaic.ValueIdx
open Idealize.ShloMosaic.TcCoe
open Cert.Proof.Spec

section Host
variable {F : FTy → Type} [FloatOps F] (m : (ℓ : Loc nD τ sig) → Buf (Elt F) ℓ) (c : Dev nD)

/-- The kernel's arrays are the arguments, the logits transposed and the labels in rows of 1024. -/
theorem XV_eq : XV m c = transpose S1000x32768 [1, 0] (m ((c : Thread nD τ).loc main_arg0)) transposes_S32768x1000_S1000x32768_1_0 := by
  show StableHlo.after (List.flatten [hostOps0]) (fun b => m (c, b)) (Proc.devRef .tc main_v0) = _
  after_reads_simp
theorem TV_eq : TV m c = shapeCast S32x1x1024 (m ((c : Thread nD τ).loc main_arg1)) shapeCasts_S32768_S32x1x1024 := by
  show StableHlo.after (List.flatten [hostOps0]) (fun b => m (c, b)) (Proc.devRef .tc main_v1) = _
  after_reads_simp
  rfl
theorem final_eq : final m c = shapeCast S_ (res m c) shapeCasts_S1x1_S_ := by
  have e : ∀ W : Valuation τ sig (Elt F), StableHlo.after (List.flatten [hostOps1]) W (Proc.devRef .tc main_v3)
      = shapeCast S_ (W (Proc.devRef .tc main_v2)) shapeCasts_S1x1_S_ := by
    intro W
    after_reads_simp
    rfl
  exact (e _).trans (congrArg (fun v => shapeCast S_ v shapeCasts_S1x1_S_) (W0_res m c))

theorem XV_at (j : Fin 1000) (i : Fin 32768) : XV m c (ix2 j i) = m ((c : Thread nD τ).loc main_arg0) (ix2 i j) :=
  (congrFun (XV_eq m c) _).trans (transpose_apply _ _ _ _ (ix2 i j) fun a => match a with | ⟨0, _⟩ => rfl | ⟨1, _⟩ => rfl)
theorem TV_at (b : Fin 32) (l : Fin 1024) : TV m c (ix3 b 0 l) = m ((c : Thread nD τ).loc main_arg1) (ix1 (rowOf b l)) :=
  (congrFun (TV_eq m c) _).trans (shapeCast_apply _ _ _ (ix1 (rowOf b l)) (by
    rw [Shape.rowMajor_val_three, Shape.rowMajor_val_one]
    show 1024 * b.val + l.val = (b.val * 1 + 0) * 1024 + l.val
    omega))
theorem final_at : final m c ix0 = res m c (ix2 0 0) :=
  (congrFun (final_eq m c) _).trans (shapeCast_apply _ _ _ (ix2 0 0) rfl)

end Host

section Value
variable (m : (ℓ : Loc nD τ sig) → Buf (Elt Ideal) ℓ) (c : Dev nD) [Cert.Pre_target_ok.Facts]

theorem final_value (x : FVec Ideal S32768x1000 .f32) (t : IVec S32768 32)
    (hx : m ((c : Thread nD τ).loc main_arg0) = x) (ht : m ((c : Thread nD τ).loc main_arg1) = t)
    (h : Cert.Pre_target_ok.fn (F := Ideal) x t = fun _ => 1#1) : final m c = Ref.out x t := by
  obtain ⟨lab, hl⟩ := Pre.classes x t h
  have hp := fun i => Ref.place_at (Ref.soft x) i
  choose j hj hfirst using hp
  funext k
  obtain rfl : k = ix0 := funext fun a => a.elim0
  rw [Ref.out_at x t lab hl]
  refine (final_at m c).trans ((outOf_at c (XV m c) (TV m c) (Ref.row x) lab (fun a b => (XV_at m c a b).trans (congrFun hx _))
    (fun b l => (TV_at m c b l).trans ((congrFun ht _).trans (hl _)))).trans ?_)
  refine (same_loss (Ref.row x) lab j ?_ (Pre.no_earlier x t h lab hl)).trans ?_
  · intro i hb ht
    obtain ⟨r, hr⟩ : ∃ r : ℝ, peak (Ref.row x i) = r := ⟨_, (EReal.coe_toReal ht hb).symm⟩
    have hpos := (finite_prob (Ref.row x i) r hr).2.2.1
    intro k
    have := hfirst i (fun k => by rw [Ref.soft_at]; exact hpos k) k
    rwa [Ref.soft_at, Ref.soft_at] at this
  · rw [Ref.ece_at]
    refine Finset.sum_congr rfl fun i _ => congrArg (fun s : EReal => (-1 * s) * logp (Ref.row x i) (Ref.row x i (lab i)))
      (Finset.sum_congr rfl fun k _ => congrArg₂ (fun q a : Fin 32768 → EReal => binGap (lo (k.castLE (by decide))) (hi (k.castLE (by decide))) q a)
        (funext fun i => (Ref.top_at x i).symm) (funext fun i => ?_))
    rw [Ref.right_at, hj, hl]
    have : (j i = lab i) = (BitVec.ofNat 32 (j i).val = BitVec.ofNat 32 (lab i).val) :=
      propext ⟨fun e => by rw [e], fun e => Ref.class_inj _ _ e⟩
    rw [this]

end Value

end Cert.Proof.Stream

end
-- ==== Proof.lean ====
/- The proof of the claims about the streaming calibration-loss kernel: the runs of the program and of the reference. -/
module

public import proofs.«01_k».proof.Defs
public import proofs.«01_k».proof.Proof.Final
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Lib.Claim
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_target_ok.Facts := Pre.facts

/-- The kernel's frame, read off its run. -/
theorem frame_p : Cert.quiescent_Kernel := fun m g _ =>
  (θ_run _ _ _).mono (fun _ h => ⟨fun c => ⟨(h.1 c).1, (h.1 c).2.1⟩, h.2⟩) (Stream.run_main (F := Bits) m g)

/-- The idealized kernel's frame: the same program at the extended reals. -/
theorem frame_pi : Cert.quiescent_KernelIdeal := fun m g _ =>
  (θ_run _ _ _).mono (fun _ h => ⟨fun c => ⟨(h.1 c).1, (h.1 c).2.1⟩, h.2⟩) (Stream.run_main (F := Ideal) m g)

/-- The reference's frame: host operations only, none of which writes an argument; it declares no semaphore. -/
theorem frame_ri : Cert.quiescent_ReferenceIdeal := by
  intro m g _
  refine (θ_run Cert.ReferenceIdeal.defs _ _).mono (fun r h => ⟨h, sem_eq_zero_of_no_sems (by decide) r.2⟩) ?_
  hlo_run

/-- The same of the runs the value claim is about: the precondition is not needed for them. -/
theorem frame_pi_pre : Cert.quiescent_KernelIdeal_pre_target_ok := fun m g _ => frame_pi m g trivial
theorem frame_ri_pre : Cert.quiescent_ReferenceIdeal_pre_target_ok := fun m g _ => frame_ri m g trivial

/-- The two results are equal wherever the precondition holds. -/
theorem values : Cert.algebraic_KernelIdeal_ReferenceIdeal_pre_target_ok := by
  intro m g m' g' hpre hagree
  refine ⟨fun c => Ref.out (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run _ _ _).mono (fun _ h c => ⟨(h.1 c).2.2.trans (Stream.final_value m c _ _ rfl rfl (hpre c)), (h.1 c).1, (h.1 c).2.1⟩)
      (Stream.run_main (F := Ideal) m g)
  · refine (θ_run _ _ _).mono (fun _ h c => ⟨(h c).1.trans ?_, (h c).2⟩) (Ref.run (F := Ideal) m' g')
    exact congrArg₂ (fun x t => Ref.out (F := Ideal) x t) (hagree c).1 (hagree c).2

theorem claim : Cert.Claim :=
  ⟨Cert.Kernel.Gen.facts, Cert.KernelIdeal.Gen.facts, Cert.ReferenceIdeal.Gen.facts, Pre.facts,
    frame_p, frame_pi, frame_pi_pre, frame_ri, frame_ri_pre, trivial, values⟩

end Cert.Proof

end
